-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x2048x8192 : Shape := ⟨3, ![4, 2048, 8192]⟩
abbrev S576x8192 : Shape := ⟨2, ![576, 8192]⟩
abbrev S5x64 : Shape := ⟨2, ![5, 64]⟩
abbrev S512 : Shape := ⟨1, ![512]⟩
abbrev S_ : Shape := ⟨0, ![]⟩

class Facts : Prop where
  bcast_S_S4x2048x8192 : S_.BroadcastsInDim S4x2048x8192 (![] : Fin 0 → Fin S4x2048x8192.rank)

variable [Facts]

def fn {F : FTy → Type} [FloatOps F] (main_arg0 : FVec F S4x2048x8192 .bf16) (main_arg1 : FVec F S576x8192 .fp8e4m3) (main_arg2 : FVec F S5x64 .f32) (main_arg3 : FVec F S512 .bf16) : IVec S4x2048x8192 1 :=
  let main_v0 : FVec F S4x2048x8192 .bf16 := Host.absf main_arg0
  let main_cst : FVec F S_ .bf16 := constant S_ .bf16 0x7F7F#16
  let main_v1 : FVec F S4x2048x8192 .bf16 := broadcastInDim S4x2048x8192 ![] bcast_S_S4x2048x8192 main_cst
  let main_v2 : IVec S4x2048x8192 1 := cmpf .ole main_v0 main_v1
  main_v2
-- ==== Kernel.lean ====
abbrev S4x2048x8192 : Shape := ⟨3, ![4, 2048, 8192]⟩
abbrev S576x8192 : Shape := ⟨2, ![576, 8192]⟩
abbrev S5x64 : Shape := ⟨2, ![5, 64]⟩
abbrev S512 : Shape := ⟨1, ![512]⟩
abbrev S512x1 : Shape := ⟨2, ![512, 1]⟩
abbrev S512x128 : Shape := ⟨2, ![512, 128]⟩
abbrev S8192x8192 : Shape := ⟨2, ![8192, 8192]⟩
abbrev S8192x512 : Shape := ⟨2, ![8192, 512]⟩
abbrev S8192x64 : Shape := ⟨2, ![8192, 64]⟩
abbrev S512x8192 : Shape := ⟨2, ![512, 8192]⟩
abbrev S512x512 : Shape := ⟨2, ![512, 512]⟩
abbrev S512x64 : Shape := ⟨2, ![512, 64]⟩
abbrev S1x1 : Shape := ⟨2, ![1, 1]⟩
abbrev S1x128 : Shape := ⟨2, ![1, 128]⟩
abbrev S128x128 : Shape := ⟨2, ![128, 128]⟩
abbrev S64x128 : Shape := ⟨2, ![64, 128]⟩
abbrev S1x1024 : Shape := ⟨2, ![1, 1024]⟩
abbrev S512x1024 : Shape := ⟨2, ![512, 1024]⟩
abbrev S576x512 : Shape := ⟨2, ![576, 512]⟩
abbrev S1x512 : Shape := ⟨2, ![1, 512]⟩
abbrev S64x512 : Shape := ⟨2, ![64, 512]⟩

abbrev nBuf : Space → Nat
  | .hbm => 11
  | .vmem => 14
  | .smem => 1
  | _ => 0

abbrev bufTy : (tb : Table) → Fin (tcTables nBuf tb) → BufTy
  | .hbm, ⟨0, _⟩ => ⟨S4x2048x8192, .bf16⟩
  | .hbm, ⟨1, _⟩ => ⟨S576x8192, .fp8e4m3⟩
  | .hbm, ⟨2, _⟩ => ⟨S5x64, .f32⟩
  | .hbm, ⟨3, _⟩ => ⟨S512, .bf16⟩
  | .hbm, ⟨4, _⟩ => ⟨S512x1, .bf16⟩
  | .hbm, ⟨5, _⟩ => ⟨S512x128, .bf16⟩
  | .hbm, ⟨6, _⟩ => ⟨S8192x8192, .bf16⟩
  | .hbm, ⟨7, _⟩ => ⟨S8192x512, .bf16⟩
  | .hbm, ⟨8, _⟩ => ⟨S8192x64, .bf16⟩
  | .hbm, ⟨9, _⟩ => ⟨S8192x8192, .fp8e4m3⟩
  | .hbm, ⟨10, _⟩ => ⟨S8192x64, .f32⟩
  | .local _ .vmem, ⟨0, _⟩ => ⟨S512x8192, .bf16⟩
  | .local _ .vmem, ⟨1, _⟩ => ⟨S512x8192, .bf16⟩
  | .local _ .vmem, ⟨2, _⟩ => ⟨S576x8192, .fp8e4m3⟩
  | .local _ .vmem, ⟨3, _⟩ => ⟨S512x128, .bf16⟩
  | .local _ .vmem, ⟨4, _⟩ => ⟨S512x512, .bf16⟩
  | .local _ .vmem, ⟨5, _⟩ => ⟨S512x512, .bf16⟩
  | .local _ .vmem, ⟨6, _⟩ => ⟨S512x64, .bf16⟩
  | .local _ .vmem, ⟨7, _⟩ => ⟨S512x64, .bf16⟩
  | .local _ .vmem, ⟨8, _⟩ => ⟨S512x8192, .fp8e4m3⟩
  | .local _ .vmem, ⟨9, _⟩ => ⟨S512x8192, .fp8e4m3⟩
  | .local _ .vmem, ⟨10, _⟩ => ⟨S512x64, .f32⟩
  | .local _ .vmem, ⟨11, _⟩ => ⟨S512x64, .f32⟩
  | .local _ .vmem, ⟨12, _⟩ => ⟨S576x8192, .bf16⟩
  | .local _ .vmem, ⟨13, _⟩ => ⟨S512x8192, .bf16⟩
  | .local _ .smem, ⟨0, _⟩ => ⟨S5x64, .f32⟩
  | _, _ => ⟨S4x2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S576x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S5x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x8192 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4x2048x8192 : Shape := ⟨3, ![4, 2048, 8192]⟩
abbrev S576x8192 : Shape := ⟨2, ![576, 8192]⟩
abbrev S5x64 : Shape := ⟨2, ![5, 64]⟩
abbrev S512 : Shape := ⟨1, ![512]⟩
abbrev S8192x8192 : Shape := ⟨2, ![8192, 8192]⟩
abbrev S1x512 : Shape := ⟨2, ![1, 512]⟩
abbrev S8192x512 : Shape := ⟨2, ![8192, 512]⟩
abbrev S8192x64 : Shape := ⟨2, ![8192, 64]⟩
abbrev S8192x64x128 : Shape := ⟨3, ![8192, 64, 128]⟩
abbrev S8192x64x1 : Shape := ⟨3, ![8192, 64, 1]⟩
abbrev S5x1x64 : Shape := ⟨3, ![5, 1, 64]⟩
abbrev S5x128x64 : Shape := ⟨3, ![5, 128, 64]⟩
abbrev S640x64 : Shape := ⟨2, ![640, 64]⟩
abbrev S640x64x1 : Shape := ⟨3, ![640, 64, 1]⟩
abbrev S640x64x128 : Shape := ⟨3, ![640, 64, 128]⟩
abbrev S640x8192 : Shape := ⟨2, ![640, 8192]⟩
abbrev S8192x576 : Shape := ⟨2, ![8192, 576]⟩
abbrev S8192 : Shape := ⟨1, ![8192]⟩
abbrev S8192x1 : Shape := ⟨2, ![8192, 1]⟩

abbrev nBuf : Space → Nat
  | .hbm => 10
  | .vmem => 8
  | .smem => 0
  | _ => 0

abbrev bufTy : (tb : Table) → Fin (tcTables nBuf tb) → BufTy
  | .hbm, ⟨0, _⟩ => ⟨S4x2048x8192, .bf16⟩
  | .hbm, ⟨1, _⟩ => ⟨S576x8192, .fp8e4m3⟩
  | .hbm, ⟨2, _⟩ => ⟨S5x64, .f32⟩
  | .hbm, ⟨3, _⟩ => ⟨S512, .bf16⟩
  | .hbm, ⟨4, _⟩ => ⟨S8192x8192, .bf16⟩
  | .hbm, ⟨5, _⟩ => ⟨S1x512, .bf16⟩
  | .hbm, ⟨6, _⟩ => ⟨S8192x512, .bf16⟩
  | .hbm, ⟨7, _⟩ => ⟨S8192x64, .bf16⟩
  | .hbm, ⟨8, _⟩ => ⟨S8192x8192, .fp8e4m3⟩
  | .hbm, ⟨9, _⟩ => ⟨S8192x64, .f32⟩
  | .local _ .vmem, ⟨0, _⟩ => ⟨S8192x8192, .bf16⟩
  | .local _ .vmem, ⟨1, _⟩ => ⟨S576x8192, .fp8e4m3⟩
  | .local _ .vmem, ⟨2, _⟩ => ⟨S5x64, .f32⟩
  | .local _ .vmem, ⟨3, _⟩ => ⟨S1x512, .bf16⟩
  | .local _ .vmem, ⟨4, _⟩ => ⟨S8192x512, .bf16⟩
  | .local _ .vmem, ⟨5, _⟩ => ⟨S8192x64, .bf16⟩
  | .local _ .vmem, ⟨6, _⟩ => ⟨S8192x8192, .fp8e4m3⟩
  | .local _ .vmem, ⟨7, _⟩ => ⟨S8192x64, .f32⟩
  | _, _ => ⟨S4x2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8192x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S576x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x8192 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Scale.lean ====
/-
  The scale of one group of activations: from the largest magnitude `a` of the group to the two powers of two the
  quantiser multiplies by. The kernel reads them off a 16-bit word it finds by counting; the reference computes
  `2 ^ (⌊log₂ (a / 448)⌋ + 1)` (or `2 ^ 0` where `a / 448` is below the smallest normal value). The two agree for every
  finite `a`.
-/
module

public import Idealize.ShloMosaic.PureOps.Ideal
public import Idealize.ShloMosaic.PureOps.Ideal.Laws
public import Mathlib.Analysis.SpecialFunctions.Log.Basic
public import Mathlib.Analysis.SpecialFunctions.Pow.Real

@[expose] public section

noncomputable section

namespace Cert.Proof

open Idealize.ShloMosaic

/-- The value of the bf16 word `32 k`. -/
def wv (k : Fin 1024) : EReal := Ideal.ofBits .bf16 ((IntOp.muli 32#32 (BitVec.ofNat 32 k.val)).setWidth 16)

/-- What word `32 k` adds to the count: 32 where its value exceeds `a`. -/
def above (a : EReal) (k : Fin 1024) : BitVec 32 := Scalar.select (Ideal.cmp .ogt (wv k) a) 32#32 0#32

/-- The word of `a` rounded to an exponent, from the sum of the words above: the kernel's arithmetic. -/
def expWord (s : BitVec 32) : BitVec 16 :=
  IntOp.andi (IntOp.addi ((IntOp.subi 32640#32 s).setWidth 16) 32#16) 32640#16

/-- The same with the small words replaced by the word whose scale is one. -/
def mWord (s : BitVec 32) : BitVec 16 := Scalar.select (IntOp.cmpi .slt (expWord s) 1280#16) 17280#16 (expWord s)

/-- The sum of the words above `a`. -/
def aboveSum (a : EReal) : BitVec 32 := (Finset.univ : Finset (Fin 1024)).fold IntOp.addi 0#32 (above a)

/-- The scale as the kernel finds it. -/
def kScale (a : EReal) : EReal := Ideal.ofBits .bf16 (IntOp.subi (mWord (aboveSum a)) 1024#16)

/-- The inverse scale as the kernel finds it. -/
def kInv (a : EReal) : EReal := Ideal.ofBits .bf16 (IntOp.subi 33536#16 (mWord (aboveSum a)))

/-- The exponent of the scale as the reference computes it. -/
def rExp (a : EReal) : EReal :=
  Scalar.select (Ideal.cmp .olt (Ideal.div a (Ideal.ofBits .f32 0x43E00000#32)) (Ideal.ofBits .f32 0x00800000#32))
    (Ideal.ofBits .f32 0x00000000#32)
    (Ideal.liftRound Int.floor (Ideal.div (Ideal.log (Ideal.div a (Ideal.ofBits .f32 0x43E00000#32)))
      (Ideal.log (Ideal.ofBits .f32 0x40000000#32))) + Ideal.ofBits .f32 0x3F800000#32)

theorem c448 : Ideal.ofBits .f32 0x43E00000#32 = ((448 : ℝ) : EReal) := by
  simp [Ideal.ofBits, Ideal.ieee, -EReal.coe_mul]; norm_num
theorem c2 : Ideal.ofBits .f32 0x40000000#32 = ((2 : ℝ) : EReal) := by
  simp [Ideal.ofBits, Ideal.ieee, -EReal.coe_mul]; norm_num
theorem c1 : Ideal.ofBits .f32 0x3F800000#32 = ((1 : ℝ) : EReal) := by
  simp [Ideal.ofBits, Ideal.ieee, -EReal.coe_mul]; norm_num
theorem c0 : Ideal.ofBits .f32 0x00000000#32 = ((0 : ℝ) : EReal) := by
  simp [Ideal.ofBits, Ideal.ieee]
theorem ctiny : Ideal.ofBits .f32 0x00800000#32 = (((2 : ℝ) ^ (-126 : ℤ) : ℝ) : EReal) := by
  simp [Ideal.ofBits, Ideal.ieee, -EReal.coe_mul]; norm_num
/-- The largest finite bf16 value. -/
theorem cmax : Ideal.ofBits .bf16 0x7F7F#16 = ((255 * (2 : ℝ) ^ (120 : ℤ) : ℝ) : EReal) := by
  simp [Ideal.ofBits, Ideal.ieee, -EReal.coe_mul]

/-- A bf16 word that is a multiple of 128 with a normal exponent field is a power of two. -/
theorem pow_word (n : ℕ) (h0 : 1 ≤ n) (h1 : n ≤ 254) :
    Ideal.ofBits .bf16 (BitVec.ofNat 16 (128 * n)) = (((2 : ℝ) ^ ((n : ℤ) - 127) : ℝ) : EReal) := by
  have key : ∀ n : Fin 255, (BitVec.ofNat 16 (128 * n.val)).extractLsb' 15 1 = 0#1
      ∧ ((BitVec.ofNat 16 (128 * n.val)).extractLsb' 7 8).toNat = n.val
      ∧ ((BitVec.ofNat 16 (128 * n.val)).extractLsb' 0 7).toNat = 0 := by decide +kernel
  obtain ⟨k1, k2, k3⟩ := key ⟨n, by omega⟩
  simp only at k1 k2 k3
  simp only [Ideal.ofBits, Ideal.ieee]
  rw [show 8 + 7 = 15 from rfl, k1, k2, k3]
  rw [if_neg (by omega), if_neg (by omega)]
  congr 1
  have h2 : (2:ℝ) ^ ((n:ℤ) - 127) = (2:ℝ)^(7:ℤ) * (2:ℝ) ^ ((n:ℤ) - (2 ^ (8 - 1) - 1) - 7) := by
    rw [← zpow_add₀ (by norm_num)]; congr 1; ring
  simp only [Nat.cast_ofNat]
  rw [h2]; norm_num

/-- The value of word `32 k` where the exponent field is neither zero nor all ones. -/
theorem wv_normal (k : Fin 1024) (h0 : 4 ≤ k.val) (h1 : k.val < 1020) :
    wv k = ((((128 + 32 * (k.val % 4) : ℕ) : ℝ) * (2 : ℝ) ^ (((k.val / 4 : ℕ) : ℤ) - 134) : ℝ) : EReal) := by
  have key : ∀ k : Fin 1024, k.val < 1020 → ((IntOp.muli 32#32 (BitVec.ofNat 32 k.val)).setWidth 16).extractLsb' 15 1 = 0#1
      ∧ (((IntOp.muli 32#32 (BitVec.ofNat 32 k.val)).setWidth 16).extractLsb' 7 8).toNat = k.val / 4
      ∧ (((IntOp.muli 32#32 (BitVec.ofNat 32 k.val)).setWidth 16).extractLsb' 0 7).toNat = 32 * (k.val % 4) := by
    decide +kernel
  obtain ⟨k1, k2, k3⟩ := key k h1
  simp only [wv, Ideal.ofBits, Ideal.ieee]
  rw [show 8 + 7 = 15 from rfl, k1, k2, k3]
  rw [if_neg (by omega), if_neg (by omega)]
  congr 1
  have : ((k.val / 4 : ℕ) : ℤ) - (2 ^ (8 - 1) - 1) - ((7 : ℕ) : ℤ) = ((k.val / 4 : ℕ) : ℤ) - 134 := by norm_num; ring
  rw [this]; norm_num

/-- The value of word `32 k` below the normal words. -/
theorem wv_sub (k : Fin 1024) (h1 : k.val < 4) :
    wv k = ((((32 * k.val : ℕ) : ℝ) * (2 : ℝ) ^ (-133 : ℤ) : ℝ) : EReal) := by
  obtain ⟨k, hk⟩ := k
  simp only at h1
  interval_cases k <;> simp [wv, IntOp.muli, Ideal.ofBits, Ideal.ieee, -EReal.coe_mul]

theorem wv_top : wv ⟨1020, by norm_num⟩ = ⊤ := by
  simp [wv, IntOp.muli, Ideal.ofBits, Ideal.ieee]

theorem wv_nan (k : Fin 1024) (h : 1020 < k.val) : wv k = ⊥ := by
  obtain ⟨k, hk⟩ := k
  simp only at h
  interval_cases k <;> simp [wv, IntOp.muli, Ideal.ofBits, Ideal.ieee]

/-- The values of the words grow with the words. -/
theorem wv_succ (k : ℕ) (h : k + 1 < 1020) : wv ⟨k, by omega⟩ < wv ⟨k + 1, by omega⟩ := by
  rcases Nat.lt_or_ge k 3 with h3 | h3
  · rw [wv_sub _ (by simp only; omega), wv_sub _ (by simp only; omega), EReal.coe_lt_coe_iff]
    have : (0:ℝ) < (2:ℝ)^(-133:ℤ) := by positivity
    apply mul_lt_mul_of_pos_right _ this
    exact_mod_cast (by simp only; omega)
  rcases Nat.eq_or_lt_of_le h3 with h3 | h3
  · subst h3
    rw [wv_sub _ (by norm_num), wv_normal _ (by norm_num) (by norm_num), EReal.coe_lt_coe_iff]
    norm_num
  · rw [wv_normal _ (by simp only; omega) (by simp only; omega), wv_normal _ (by simp only; omega) (by simp only; omega), EReal.coe_lt_coe_iff]
    simp only
    rcases Nat.lt_or_ge (k % 4) 3 with hr | hr
    · have e1 : (k + 1) / 4 = k / 4 := by omega
      have e2 : (k + 1) % 4 = k % 4 + 1 := by omega
      rw [e1, e2]
      have : (0:ℝ) < (2:ℝ)^(((k / 4 : ℕ) : ℤ) - 134) := by positivity
      apply mul_lt_mul_of_pos_right _ this
      exact_mod_cast (by omega)
    · have e1 : (k + 1) / 4 = k / 4 + 1 := by omega
      have e2 : (k + 1) % 4 = 0 := by omega
      have e3 : k % 4 = 3 := by omega
      rw [e1, e2, e3]
      have e4 : (((k / 4 + 1 : ℕ) : ℤ) - 134) = (((k / 4 : ℕ) : ℤ) - 134) + 1 := by push_cast; ring
      rw [e4, zpow_add_one₀ (by norm_num)]
      have : (0:ℝ) < (2:ℝ)^(((k / 4 : ℕ) : ℤ) - 134) := by positivity
      generalize (2:ℝ)^(((k / 4 : ℕ) : ℤ) - 134) = z at *
      norm_num
      linarith

theorem wv_mono (i j : ℕ) (h : i ≤ j) (hj : j < 1020) : wv ⟨i, by omega⟩ ≤ wv ⟨j, by omega⟩ := by
  induction j, h using Nat.le_induction with
  | base => exact le_rfl
  | succ n hn ih => exact (ih (by omega)).trans (wv_succ n hj).le

/-- The words above `a` are an interval ending at the word of infinity: there is a last word not above. -/
theorem exists_last (a : ℝ) (h0 : 0 ≤ a) : ∃ j : ℕ, ∃ hj : j < 1020, wv ⟨j, by omega⟩ ≤ (a : EReal)
    ∧ (∀ k : Fin 1024, (a : EReal) < wv k ↔ j < k.val ∧ k.val ≤ 1020) := by
  classical
  have hex : ∃ n : ℕ, ∃ hn : n < 1024, (a : EReal) < wv ⟨n, hn⟩ := ⟨1020, by norm_num, by rw [wv_top]; exact EReal.coe_lt_top a⟩
  have hz : wv ⟨0, by norm_num⟩ ≤ (a : EReal) := by
    rw [wv_sub _ (by norm_num)]; simpa using h0
  let n := Nat.find hex
  obtain ⟨hn, hn'⟩ := Nat.find_spec hex
  have hmin : ∀ m (_ : m < n) (h : m < 1024), wv ⟨m, h⟩ ≤ (a : EReal) := fun m hm h =>
    not_lt.1 fun hh => Nat.find_min hex hm ⟨h, hh⟩
  have hle : n ≤ 1020 := Nat.find_min' hex ⟨by norm_num, by rw [wv_top]; exact EReal.coe_lt_top a⟩
  have hpos : 0 < n := by
    rcases Nat.eq_zero_or_pos n with h | h
    · exact absurd hz (not_le.2 (by
        have : (⟨0, by norm_num⟩ : Fin 1024) = ⟨n, hn⟩ := Fin.ext h.symm
        rw [this]; exact hn'))
    · exact h
  refine ⟨n - 1, by omega, hmin _ (by omega) _, fun k => ⟨fun hk => ?_, fun hk => ?_⟩⟩
  · refine ⟨?_, ?_⟩
    · by_contra hc
      exact absurd hk (not_lt.2 (hmin k.val (by omega) k.isLt))
    · by_contra hc
      rw [wv_nan k (by omega)] at hk
      exact absurd hk (not_lt.2 bot_le)
  · rcases Nat.lt_or_ge k.val 1020 with h | h
    · refine lt_of_lt_of_le hn' (wv_mono n k.val (by omega) h)
    · have : k = ⟨1020, by norm_num⟩ := Fin.ext (by simp only; omega)
      rw [this, wv_top]; exact EReal.coe_lt_top a

/-- A sum of 32s over the members of a set. -/
theorem fold_count {ι : Type} (p : ι → Prop) [DecidablePred p] (S : Finset ι) :
    S.fold IntOp.addi 0#32 (fun k => if p k then 32#32 else 0#32) = BitVec.ofNat 32 (32 * (S.filter p).card) := by
  classical
  induction S using Finset.induction_on with
  | empty => rfl
  | insert a S ha ih =>
    rw [Finset.fold_insert ha, ih, Finset.filter_insert]
    by_cases h : p a
    · rw [if_pos h, if_pos h, Finset.card_insert_of_notMem (fun hm => ha (Finset.mem_filter.1 hm).1)]
      show 32#32 + BitVec.ofNat 32 _ = _
      rw [show (32#32 : BitVec 32) = BitVec.ofNat 32 32 from rfl, ← BitVec.ofNat_add]
      congr 1; ring
    · rw [if_neg h, if_neg h]
      show 0#32 + _ = _
      rw [BitVec.zero_add]

theorem aboveSum_eq (a : EReal) (j : ℕ) (hj : j < 1020) (h : ∀ k : Fin 1024, a < wv k ↔ j < k.val ∧ k.val ≤ 1020) :
    aboveSum a = BitVec.ofNat 32 (32 * (1020 - j)) := by
  classical
  have e : above a = fun k : Fin 1024 => if (j < k.val ∧ k.val ≤ 1020) then 32#32 else 0#32 := by
    funext k
    unfold above Scalar.select Ideal.cmp
    by_cases hk : a < wv k
    · rw [if_pos ((h k).1 hk)]; simp [hk]
    · rw [if_neg (fun h' => hk ((h k).2 h'))]; simp [hk]
  unfold aboveSum
  rw [e, fold_count]
  congr 2
  have : (Finset.univ.filter fun k : Fin 1024 => j < k.val ∧ k.val ≤ 1020)
      = Finset.Ioc (⟨j, by omega⟩ : Fin 1024) ⟨1020, by norm_num⟩ := by
    ext k; simp [Fin.lt_def, Fin.le_def]
  rw [this, Fin.card_Ioc]

theorem mWord_small (j : ℕ) (h : j < 39) : mWord (BitVec.ofNat 32 (32 * (1020 - j))) = BitVec.ofNat 16 (128 * 135) := by
  have key : ∀ j : Fin 39, mWord (BitVec.ofNat 32 (32 * (1020 - j.val))) = BitVec.ofNat 16 (128 * 135) := by decide +kernel
  exact key ⟨j, h⟩

theorem mWord_big (j : ℕ) (h : 39 ≤ j) (h1 : j < 1020) :
    mWord (BitVec.ofNat 32 (32 * (1020 - j))) = BitVec.ofNat 16 (128 * ((j + 1) / 4)) := by
  have key : ∀ j : Fin 1020, 39 ≤ j.val → mWord (BitVec.ofNat 32 (32 * (1020 - j.val))) = BitVec.ofNat 16 (128 * ((j.val + 1) / 4)) := by
    decide +kernel
  exact key ⟨j, h1⟩ h

theorem sub_words (E : ℕ) (h0 : 10 ≤ E) (h1 : E ≤ 255) :
    IntOp.subi (BitVec.ofNat 16 (128 * E)) 1024#16 = BitVec.ofNat 16 (128 * (E - 8))
    ∧ IntOp.subi 33536#16 (BitVec.ofNat 16 (128 * E)) = BitVec.ofNat 16 (128 * (262 - E)) := by
  have key : ∀ E : Fin 256, 10 ≤ E.val → IntOp.subi (BitVec.ofNat 16 (128 * E.val)) 1024#16 = BitVec.ofNat 16 (128 * (E.val - 8))
    ∧ IntOp.subi 33536#16 (BitVec.ofNat 16 (128 * E.val)) = BitVec.ofNat 16 (128 * (262 - E.val)) := by decide +kernel
  exact key ⟨E, by omega⟩ h0

/-- The scale and inverse scale from the word, as powers of two. -/
theorem scales_of_word (a : EReal) (E : ℕ) (h0 : 10 ≤ E) (h1 : E ≤ 255) (h : mWord (aboveSum a) = BitVec.ofNat 16 (128 * E)) :
    kScale a = (((2 : ℝ) ^ ((E : ℤ) - 135) : ℝ) : EReal) ∧ kInv a = (((2 : ℝ) ^ (135 - (E : ℤ)) : ℝ) : EReal) := by
  obtain ⟨e1, e2⟩ := sub_words E h0 h1
  unfold kScale kInv
  rw [h, e1, e2, pow_word _ (by omega) (by omega), pow_word _ (by omega) (by omega)]
  constructor <;> congr 2 <;> omega

theorem exp2_int (n : ℤ) : Ideal.exp2 ((n : ℝ) : EReal) = (((2 : ℝ) ^ n : ℝ) : EReal) := by
  show ((Real.rpow 2 (n : ℝ) : ℝ) : EReal) = _
  congr 1
  exact Real.rpow_intCast 2 n

/-- The reference's exponent of a real number, written without corners. -/
theorem rExp_small (a : ℝ) (h : a < 448 * (2 : ℝ) ^ (-126 : ℤ)) : rExp (a : EReal) = ((0 : ℝ) : EReal) := by
  unfold rExp
  rw [c448, ctiny, c0]
  have hd : Ideal.div (a : EReal) ((448 : ℝ) : EReal) = ((a / 448 : ℝ) : EReal) := by
    unfold Ideal.div
    rw [if_neg (by norm_num), ← EReal.coe_inv, ← EReal.coe_mul]; rfl
  rw [hd]
  have hlt : ((a / 448 : ℝ) : EReal) < (((2 : ℝ) ^ (-126 : ℤ) : ℝ) : EReal) := by
    rw [EReal.coe_lt_coe_iff, div_lt_iff₀ (by norm_num)]; linarith
  have hc : Ideal.cmp .olt ((a / 448 : ℝ) : EReal) (((2 : ℝ) ^ (-126 : ℤ) : ℝ) : EReal) = 1#1 := by
    show BitVec.ofBool (decide _) = _
    rw [decide_eq_true hlt]; rfl
  rw [hc]; rfl

theorem rExp_big (a : ℝ) (n : ℤ) (hn : -126 ≤ n) (h0 : 448 * (2 : ℝ) ^ n ≤ a) (h1 : a < 448 * (2 : ℝ) ^ (n + 1)) :
    rExp (a : EReal) = (((n + 1 : ℤ) : ℝ) : EReal) := by
  unfold rExp
  rw [c448, ctiny, c0, c2, c1]
  have hd : Ideal.div (a : EReal) ((448 : ℝ) : EReal) = ((a / 448 : ℝ) : EReal) := by
    unfold Ideal.div
    rw [if_neg (by norm_num), ← EReal.coe_inv, ← EReal.coe_mul]; rfl
  rw [hd]
  have hp : (0:ℝ) < (2:ℝ)^n := by positivity
  have hq0 : (2 : ℝ) ^ n ≤ a / 448 := by rw [le_div_iff₀ (by norm_num)]; linarith
  have hq1 : a / 448 < (2 : ℝ) ^ (n + 1) := by rw [div_lt_iff₀ (by norm_num)]; linarith
  have hpos : 0 < a / 448 := lt_of_lt_of_le hp hq0
  have hm : (2:ℝ) ^ (-126:ℤ) ≤ (2:ℝ)^n := zpow_le_zpow_right₀ (by norm_num) hn
  have hnlt : ¬ ((a / 448 : ℝ) : EReal) < (((2 : ℝ) ^ (-126 : ℤ) : ℝ) : EReal) := by
    rw [EReal.coe_lt_coe_iff]; exact not_lt.2 (hm.trans hq0)
  have hl1 : Ideal.log ((a / 448 : ℝ) : EReal) = ((Real.log (a / 448) : ℝ) : EReal) := by
    show (if a / 448 ≤ 0 then (⊥ : EReal) else ((Real.log (a / 448) : ℝ) : EReal)) = _
    rw [if_neg (not_le.2 hpos)]
  have hl2 : Ideal.log ((2 : ℝ) : EReal) = ((Real.log 2 : ℝ) : EReal) := by
    show (if (2:ℝ) ≤ 0 then (⊥ : EReal) else ((Real.log 2 : ℝ) : EReal)) = _
    rw [if_neg (by norm_num)]
  have hlog2 : (0:ℝ) < Real.log 2 := Real.log_pos (by norm_num)
  have hd2 : Ideal.div ((Real.log (a / 448) : ℝ) : EReal) ((Real.log 2 : ℝ) : EReal) = ((Real.log (a / 448) / Real.log 2 : ℝ) : EReal) := by
    unfold Ideal.div
    rw [if_neg (by exact_mod_cast hlog2.ne'), ← EReal.coe_inv, ← EReal.coe_mul]; rfl
  rw [hl1, hl2, hd2]
  have hf : ⌊Real.log (a / 448) / Real.log 2⌋ = n := by
    rw [Int.floor_eq_iff]
    constructor
    · rw [le_div_iff₀ hlog2, ← Real.log_zpow]
      exact Real.log_le_log hp hq0
    · have : ((n:ℝ) + 1) = ((n + 1 : ℤ) : ℝ) := by push_cast; ring
      rw [this, div_lt_iff₀ hlog2, ← Real.log_zpow]
      exact Real.log_lt_log hpos hq1
  have hfl : Ideal.liftRound Int.floor ((Real.log (a / 448) / Real.log 2 : ℝ) : EReal) = ((n : ℝ) : EReal) := by
    show (((⌊Real.log (a / 448) / Real.log 2⌋ : ℤ) : ℝ) : EReal) = _
    rw [hf]
  rw [hfl]
  have hc : Ideal.cmp .olt ((a / 448 : ℝ) : EReal) (((2 : ℝ) ^ (-126 : ℤ) : ℝ) : EReal) = 0#1 := by
    show BitVec.ofBool (decide _) = _
    rw [decide_eq_false hnlt]; rfl
  rw [hc, Int.cast_add, EReal.coe_add]; simp [Scalar.select]

/-- THE SCALES AGREE: for a finite magnitude the kernel's two powers of two are the reference's. -/
theorem scales_eq (a : EReal) (h0 : 0 ≤ a) (h1 : a ≤ Ideal.ofBits .bf16 0x7F7F#16) :
    kScale a = Ideal.exp2 (rExp a) ∧ kInv a = Ideal.exp2 (0 - rExp a) := by
  rw [zero_sub]
  rw [cmax] at h1
  induction a using EReal.rec with
  | bot => exact absurd h0 (by simp)
  | top => exact absurd h1 (not_le.2 (EReal.coe_lt_top _))
  | coe a =>
    have h0' : 0 ≤ a := by exact_mod_cast h0
    have h1' : a ≤ 255 * (2 : ℝ) ^ (120 : ℤ) := by exact_mod_cast h1
    obtain ⟨j, hj, hle, hab⟩ := exists_last a h0'
    have hs := aboveSum_eq (a : EReal) j hj hab
    rcases Nat.lt_or_ge j 39 with h | h
    · obtain ⟨r1, r2⟩ := scales_of_word (a : EReal) 135 (by norm_num) (by norm_num) (by rw [hs, mWord_small j h])
      have hlt : (a : EReal) < wv ⟨39, by norm_num⟩ := (hab _).2 ⟨h, by norm_num⟩
      rw [wv_normal _ (by norm_num) (by norm_num), EReal.coe_lt_coe_iff] at hlt
      have hr := rExp_small a (by refine lt_of_lt_of_le hlt ?_; norm_num)
      rw [r1, r2, hr]
      have e0 : (((0:ℤ):ℝ) : EReal) = ((0:ℝ):EReal) := by norm_num
      constructor
      · rw [← e0, exp2_int]; norm_num
      · have : -((0:ℝ):EReal) = (((0:ℤ):ℝ) : EReal) := by norm_num
        rw [this, exp2_int]; norm_num
    · have hE : 10 ≤ (j + 1) / 4 ∧ (j + 1) / 4 ≤ 255 := by omega
      obtain ⟨r1, r2⟩ := scales_of_word (a : EReal) ((j + 1) / 4) hE.1 hE.2 (by rw [hs, mWord_big j h hj])
      generalize hEE : (j + 1) / 4 = E at *
      have lo : 448 * (2 : ℝ) ^ ((E : ℤ) - 136) ≤ a := by
        have := (wv_mono (4 * E - 1) j (by omega) hj).trans hle
        rw [wv_normal _ (by simp only; omega) (by simp only; omega), EReal.coe_le_coe_iff] at this
        refine le_trans (le_of_eq ?_) this
        simp only
        have e1 : (4 * E - 1) / 4 = E - 1 := by omega
        have e2 : (4 * E - 1) % 4 = 3 := by omega
        rw [e1, e2]
        have e3 : (((E - 1 : ℕ) : ℤ) - 134) = ((E : ℤ) - 136) + 1 := by omega
        rw [e3, zpow_add_one₀ (by norm_num)]; norm_num; ring
      have hi : a < 448 * (2 : ℝ) ^ ((E : ℤ) - 136 + 1) := by
        rcases Nat.lt_or_ge E 255 with hE2 | hE2
        · have : (a : EReal) < wv ⟨4 * E + 3, by omega⟩ := (hab _).2 ⟨by simp only; omega, by simp only; omega⟩
          rw [wv_normal _ (by simp only; omega) (by simp only; omega), EReal.coe_lt_coe_iff] at this
          refine lt_of_lt_of_le this (le_of_eq ?_)
          simp only
          have e1 : (4 * E + 3) / 4 = E := by omega
          have e2 : (4 * E + 3) % 4 = 3 := by omega
          rw [e1, e2]
          have e3 : ((E : ℤ) - 134) = ((E : ℤ) - 136 + 1) + 1 := by ring
          rw [e3, zpow_add_one₀ (by norm_num)]; norm_num; ring
        · have : E = 255 := by omega
          subst this
          refine lt_of_le_of_lt h1' ?_
          norm_num
      have hr := rExp_big a ((E : ℤ) - 136) (by omega) lo hi
      rw [r1, r2, hr]
      constructor
      · rw [exp2_int]; congr 2; ring
      · rw [← EReal.coe_neg]
        have : -((((E : ℤ) - 136 + 1 : ℤ)) : ℝ) = ((135 - (E : ℤ) : ℤ) : ℝ) := by push_cast; ring
        rw [this, exp2_int]

end Cert.Proof

end
-- ==== Proof.Spec.lean ====
/-
  The mathematics of the block, over plain functions: a row of 8192 activations quantised group by group, the weight
  scaled tile by tile, the projection, and the root-mean-square normalisation. Both programs are read as these functions;
  they differ in how the two powers of two of a group are found (`S` the scale, `I` its inverse, from the largest magnitude).
-/
module

public import proofs.«01_k».proof.Proof.Scale

@[expose] public section

noncomputable section

open scoped BigOperators

namespace Cert.Proof

open Idealize.ShloMosaic

/-- The largest magnitude of 128 numbers. -/
def tmax (f : Fin 128 → EReal) : EReal := (Finset.univ : Finset (Fin 128)).fold max ⊥ fun k => max (f k) (-f k)

/-- The column of place `k` in the group of 128 columns that holds column `j`. -/
def gcol (j : Fin 8192) (k : Fin 128) : Fin 8192 := ⟨128 * (j.val / 128) + k.val, by omega⟩

/-- The largest magnitude of the group of column `j`. -/
def gmax (r : Fin 8192 → EReal) (j : Fin 8192) : EReal := tmax fun k => r (gcol j k)

/-- The first column of group `g`. -/
def gfirst (g : Fin 64) : Fin 8192 := ⟨128 * g.val, by omega⟩

/-- Clipping to the range of the 8-bit format. -/
def clip (v : EReal) : EReal := min (Ideal.ofBits .bf16 0x43E0#16) (max (Ideal.ofBits .bf16 0xC3E0#16) v)

variable (S I : EReal → EReal)

/-- The code of column `j` of a row. -/
def code (r : Fin 8192 → EReal) (j : Fin 8192) : EReal := clip (r j * I (gmax r j))

/-- The dequantised activation of column `j` of a row. -/
def xdeq (r : Fin 8192 → EReal) (j : Fin 8192) : EReal := code I r j * S (gmax r j)

/-- The scale of group `g` of a row. -/
def gscale (r : Fin 8192 → EReal) (g : Fin 64) : EReal := S (gmax r (gfirst g))

/-- The dequantised weight. -/
def wdeq (w : Fin 576 → Fin 8192 → EReal) (s : Fin 5 → Fin 64 → EReal) (o : Fin 576) (j : Fin 8192) : EReal :=
  w o j * s ⟨o.val / 128, by omega⟩ ⟨j.val / 128, by omega⟩

/-- The projection of a row. -/
def proj (r : Fin 8192 → EReal) (w : Fin 576 → Fin 8192 → EReal) (s : Fin 5 → Fin 64 → EReal) (o : Fin 576) : EReal :=
  ∑ j : Fin 8192, xdeq S I r j * wdeq w s o j

/-- The normalised latent of a projected row. -/
def latent (y : Fin 576 → EReal) (g : Fin 512 → EReal) (o : Fin 512) : EReal :=
  y ⟨o.val, by omega⟩ * Ideal.rsqrt (Ideal.div (∑ q : Fin 512, y ⟨q.val, by omega⟩ * y ⟨q.val, by omega⟩)
    (Ideal.ofBits .f32 0x44000000#32) + Ideal.ofBits .f32 0x358637BD#32) * g o

/-- The last 64 projected columns. -/
def rope (y : Fin 576 → EReal) (o : Fin 64) : EReal := y ⟨512 + o.val, by omega⟩

/-- A maximum of magnitudes is a magnitude, and no more than any bound of them. -/
theorem tmax_range (f : Fin 128 → EReal) (M : EReal) (h : ∀ k, max (f k) (-f k) ≤ M) : 0 ≤ tmax f ∧ tmax f ≤ M := by
  unfold tmax
  constructor
  · rw [Finset.le_fold_max]
    right
    refine ⟨0, Finset.mem_univ _, ?_⟩
    rcases le_total 0 (f 0) with h0 | h0
    · exact le_max_of_le_left h0
    · exact le_max_of_le_right (by rw [EReal.le_neg]; simpa using h0)
  · rw [Finset.fold_max_le]
    exact ⟨bot_le, fun k _ => h k⟩

/-- For finite rows the kernel's powers of two are the reference's. -/
theorem row_scales (r : Fin 8192 → EReal) (h : ∀ j, max (r j) (-r j) ≤ Ideal.ofBits .bf16 0x7F7F#16) (j : Fin 8192) :
    kScale (gmax r j) = Ideal.exp2 (rExp (gmax r j)) ∧ kInv (gmax r j) = Ideal.exp2 (0 - rExp (gmax r j)) :=
  have h' := tmax_range (fun k => r (gcol j k)) _ fun k => h _
  scales_eq _ h'.1 h'.2

/-- The reference's scale. -/
def rScale (a : EReal) : EReal := Ideal.exp2 (rExp a)
/-- The reference's inverse scale. -/
def rInv (a : EReal) : EReal := Ideal.exp2 (0 - rExp a)

theorem code_eq (r : Fin 8192 → EReal) (h : ∀ j, max (r j) (-r j) ≤ Ideal.ofBits .bf16 0x7F7F#16) :
    code kInv r = code rInv r := by
  funext j; unfold code rInv; rw [(row_scales r h j).2]

theorem xdeq_eq (r : Fin 8192 → EReal) (h : ∀ j, max (r j) (-r j) ≤ Ideal.ofBits .bf16 0x7F7F#16) :
    xdeq kScale kInv r = xdeq rScale rInv r := by
  funext j; unfold xdeq rScale; rw [(row_scales r h j).1, code_eq r h]

theorem gscale_eq (r : Fin 8192 → EReal) (h : ∀ j, max (r j) (-r j) ≤ Ideal.ofBits .bf16 0x7F7F#16) :
    gscale kScale r = gscale rScale r := by
  funext g; unfold gscale rScale; rw [(row_scales r h _).1]

theorem proj_eq (r : Fin 8192 → EReal) (h : ∀ j, max (r j) (-r j) ≤ Ideal.ofBits .bf16 0x7F7F#16)
    (w : Fin 576 → Fin 8192 → EReal) (s : Fin 5 → Fin 64 → EReal) :
    proj kScale kInv r w s = proj rScale rInv r w s := by
  funext o; unfold proj; rw [xdeq_eq r h]

end Cert.Proof

end
-- ==== Proof.Tile.lean ====
/-
  One group of the kernel's activations read at an index: the word, the scale, the inverse scale, the codes and the
  dequantised block of a 512 × 128 tile; and one tile of the scaled weight.
-/
module

public import proofs.«01_k».proof.Proof.Spec
public import proofs.«01_k».proof.Proof.Gen.KernelIdeal.Skeleton
public import Idealize.ShloMosaic.Lib.ValueIdx
public import Idealize.ShloMosaic.Lib.ValueLayoutCasts
public import Idealize.ShloMosaic.Lib.Pipeline.Value

@[expose] public section

noncomputable section

namespace Cert.Proof

open Idealize.ShloMosaic Idealize.ShloMosaic.ValueIdx
open Cert.KernelIdeal Cert.KernelIdeal.Gen

/-- A row of a tile. -/
def trow (v : Vec Ideal S512x128 .bf16) (p : Fin 512) (k : Fin 128) : EReal := v (ix2 p k)

theorem lift_row128 (h : S512x128.Reduces [1] S512) (p : Fin 512) (k : Fin 128) : h.lift (ix1 p) k = ix2 p k := by
  funext a; match a with | ⟨0, _⟩ => rfl | ⟨1, _⟩ => rfl

theorem lift_row1024 (h : S512x1024.Reduces [1] S512) (p : Fin 512) (k : Fin 1024) : h.lift (ix1 p) k = ix2 p k := by
  funext a; match a with | ⟨0, _⟩ => rfl | ⟨1, _⟩ => rfl

theorem neg_inf_bf16 : Ideal.ofBits .bf16 0xFF80#16 = ⊥ := by simp [Ideal.ofBits, Ideal.ieee]

/-- The word of a row of a tile is the word of the row's largest magnitude. -/
theorem tile_word (v : Vec Ideal S512x128 .bf16) (p : Fin 512) (u : Fin 1) :
    k0_pay400 (F := Ideal) v (ix2 p u) = mWord (aboveSum (tmax (trow v p))) := by
  have hmax : (shapeCast S512x1 (multiReduction .maximumf [1] S512 (absf (k0_pay399 (F := Ideal) v)) 0xFF80#16 reduces_S512x128_S512 (.inr rfl) rfl : FVec Ideal S512 .bf16) shapeCasts_S512_S512x1 : FVec Ideal S512x1 .bf16) (ix2 p u) = tmax (trow v p) := by
    rw [shapeCast_a_a1_apply]
    refine (Ideal.multiReduction_maximumf_single _ _ reduces_S512x128_S512 _ _ _).trans ?_
    unfold tmax
    refine (congrArg (fun b => Finset.fold max b _ Finset.univ) neg_inf_bf16).trans ?_
    refine congrArg (Finset.fold max ⊥ · Finset.univ) ?_
    funext k
    show absf (k0_pay399 (F := Ideal) v) (reduces_S512x128_S512.lift (ix1 p) k) = _
    refine (congrArg (absf (k0_pay399 (F := Ideal) v)) (lift_row128 _ p k)).trans ?_
    unfold k0_pay399
    simp only [shapeCast_self]
    rfl
  have hsum : ∀ A : FVec Ideal S512x1 .bf16, (shapeCast S512x1 (multiReductionI .add [1] S512 (select (cmpf .ogt (broadcastTo S512x1024 (bitcastToFloat (F := Ideal) .bf16 (trunci 16 (muli (broadcast S1x1024 32#32) (iota .tc S1x1024 32 [1] iota_S1x1024_d1_w32)) natLt_16_32)) broadcasts_S1x1024_S512x1024) (broadcastTo S512x1024 A broadcasts_S512x1_S512x1024)) (broadcast S512x1024 32#32) (broadcast S512x1024 0#32)) 0#32 reduces_S512x1024_S512 rfl) shapeCasts_S512_S512x1) (ix2 p u) = aboveSum (A (ix2 p u)) := by
    intro A
    rw [shapeCast_a_a1_apply]
    refine (multiReductionI_eq_fold .add _ _ _ rfl _).trans ?_
    refine (reduces_S512x1024_S512.fold_filter_drop_single _ _ _ _).trans ?_
    unfold aboveSum
    refine congrArg (Finset.fold IntOp.addi 0#32 · Finset.univ) ?_
    funext k
    refine (congrArg _ (lift_row1024 reduces_S512x1024_S512 p k)).trans ?_
    change Fin 1024 at k
    have hu : u = 0 := Subsingleton.elim _ _
    subst hu
    unfold above wv
    show Scalar.select (Ideal.cmp .ogt (broadcastTo S512x1024 _ _ (ix2 p k)) (broadcastTo S512x1024 A _ (ix2 p k))) 32#32 0#32 = _
    rw [broadcastTo_apply A _ (ix2 p k) (ix2 p 0) (fun a => by match a with | ⟨0, _⟩ => rfl | ⟨1, _⟩ => rfl)]
    rw [broadcastTo_apply _ _ (ix2 p k) (ix2 (0 : Fin 1) k) (fun a => by match a with | ⟨0, _⟩ => rfl | ⟨1, _⟩ => rfl)]
    show Scalar.select (Ideal.cmp .ogt (Ideal.ofBits .bf16 ((IntOp.muli 32#32 (BitVec.ofNat 32 (0 * 1024 + k.val))).setWidth 16)) _) _ _ = _
    rw [Nat.zero_mul, Nat.zero_add]
  rw [← hmax, ← hsum]
  rfl

/-- The scale of a row of a tile. -/
theorem tile_scale (v : Vec Ideal S512x128 .bf16) (p : Fin 512) (u : Fin 1) :
    k0_pay401 (F := Ideal) v (ix2 p u) = kScale (tmax (trow v p)) := by
  show Ideal.ofBits .bf16 (IntOp.subi (k0_pay400 (F := Ideal) v (ix2 p u)) 1024#16) = _
  rw [tile_word]; rfl

/-- A tile times its rows' inverse scales. -/
theorem tile_scaled (v : Vec Ideal S512x128 .bf16) (p : Fin 512) (q : Fin 128) :
    k0_pay402 (F := Ideal) v (ix2 p q) = v (ix2 p q) * kInv (tmax (trow v p)) := by
  show k0_pay399 (F := Ideal) v (ix2 p q) * broadcastTo S512x128 _ _ (ix2 p q) = _
  rw [broadcastTo_apply _ _ (ix2 p q) (ix2 p (0 : Fin 1)) (fun a => by match a with | ⟨0, _⟩ => rfl | ⟨1, _⟩ => rfl)]
  show k0_pay399 (F := Ideal) v (ix2 p q) * Ideal.ofBits .bf16 (IntOp.subi 33536#16 (k0_pay400 (F := Ideal) v (ix2 p 0))) = _
  rw [tile_word]
  unfold k0_pay399
  simp only [shapeCast_self]
  rfl

/-- The codes of a tile. -/
def tileCode (v : Vec Ideal S512x128 .bf16) : FVec Ideal S512x128 .fp8e4m3 :=
  k0_pay403 (k0_pay402 v) (Scalar.ofBits .bf16 0xC3E0#16) (Scalar.ofBits .bf16 0x43E0#16)

/-- The dequantised tile. -/
def tileDeq (v : Vec Ideal S512x128 .bf16) : FVec Ideal S512x128 .bf16 :=
  k0_pay404 (k0_pay401 v) (k0_pay402 v) (Scalar.ofBits .bf16 0xC3E0#16) (Scalar.ofBits .bf16 0x43E0#16)

/-- The scales of a tile. -/
def tileScale (v : Vec Ideal S512x128 .bf16) : FVec Ideal S512x1 .f32 := k0_pay405 (k0_pay401 v)

theorem tileCode_apply (v : Vec Ideal S512x128 .bf16) (p : Fin 512) (q : Fin 128) :
    tileCode v (ix2 p q) = clip (v (ix2 p q) * kInv (tmax (trow v p))) := by
  show min _ (max _ (k0_pay402 (F := Ideal) v (ix2 p q))) = _
  rw [tile_scaled]; rfl

theorem tileDeq_apply (v : Vec Ideal S512x128 .bf16) (p : Fin 512) (q : Fin 128) :
    tileDeq v (ix2 p q) = clip (v (ix2 p q) * kInv (tmax (trow v p))) * kScale (tmax (trow v p)) := by
  unfold tileDeq k0_pay404
  simp only [shapeCast_self]
  show tileCode v (ix2 p q) * broadcastTo S512x128 (k0_pay401 (F := Ideal) v) _ (ix2 p q) = _
  rw [broadcastTo_apply _ _ (ix2 p q) (ix2 p (0 : Fin 1)) (fun a => by match a with | ⟨0, _⟩ => rfl | ⟨1, _⟩ => rfl)]
  rw [tileCode_apply, tile_scale]

theorem tileScale_apply (v : Vec Ideal S512x128 .bf16) (p : Fin 512) (u : Fin 1) :
    tileScale v (ix2 p u) = kScale (tmax (trow v p)) := by
  show k0_pay401 (F := Ideal) v (ix2 p u) = _
  rw [tile_scale]

end Cert.Proof

end
-- ==== Proof.Blocks.lean ====
/-
  What one grid point leaves in its blocks, as functions of the point's input blocks, and each store's payload read as a
  tile of the function: the codes, the scales, the dequantised activations, the scaled weight.
-/
module

public import proofs.«01_k».proof.Proof.Tile
public import Idealize.ShloMosaic.Lib.Pipeline.ValueKit

@[expose] public section

noncomputable section

namespace Cert.Proof

open Idealize.ShloMosaic hiding ix1 ix2 ix3 ix4 eq_ix1 eq_ix2 eq_ix3 eq_ix4
open Idealize.ShloMosaic.ValueIdx
open Cert.KernelIdeal Cert.KernelIdeal.Gen

/-- A row of a block of activations. -/
def brow (x : Vec Ideal S512x8192 .bf16) (p : Fin 512) (j : Fin 8192) : EReal := x (ix2 p j)

/-- The codes of a block. -/
def codesBlk (x : Vec Ideal S512x8192 .bf16) : Vec Ideal S512x8192 .fp8e4m3 := fun i => code kInv (brow x (i 0)) (i 1)

/-- The dequantised block. -/
def xdBlk (x : Vec Ideal S512x8192 .bf16) : Vec Ideal S512x8192 .bf16 := fun i => xdeq kScale kInv (brow x (i 0)) (i 1)

/-- The scales of a block. -/
def sclBlk (x : Vec Ideal S512x8192 .bf16) : Vec Ideal S512x64 .f32 := fun i => gscale kScale (brow x (i 0)) (i 1)

/-- The scaled weight. -/
def wdBlk (w : Vec Ideal S576x8192 .fp8e4m3) (s : Vec Ideal S5x64 .f32) : Vec Ideal S576x8192 .bf16 :=
  fun i => wdeq (fun o j => w (ix2 o j)) (fun a b => s (ix2 a b)) (i 0) (i 1)

section
variable (x : Vec Ideal S512x8192 .bf16) (o : Nat) (ho : o % 128 = 0) (inb : ∀ a, (![0, o] : Fin 2 → Nat) a + (![512, 128] : Fin 2 → Nat) a ≤ S512x8192.size a)

theorem ld_tile (p : Fin 512) (q : Fin 128) (h : o + q.val < 8192) :
    View.ld x (Rect.unit ![0, o] ![512, 128] inb) (ix2 p q) = x (ix2 p ⟨o + q.val, h⟩) :=
  View.ld_unit_apply_of x _ _ inb (ix2 p q) (ix2 p ⟨o + q.val, h⟩) (fun a => by
    match a with | ⟨0, _⟩ => exact (Nat.zero_add _).symm | ⟨1, _⟩ => rfl)

include ho in
theorem tmax_tile (p : Fin 512) (j : Fin 8192) (hj : 128 * (j.val / 128) = o) :
    tmax (trow (View.ld x (Rect.unit ![0, o] ![512, 128] inb)) p) = gmax (brow x p) j := by
  unfold gmax
  congr 1
  funext k
  have hk : o + k.val < 8192 := by have := j.isLt; have := k.isLt; omega
  refine (ld_tile x o inb p k hk).trans ?_
  unfold brow gcol
  congr 2
  exact Fin.ext (by simp only [hj])

theorem emb_tile (p : Fin 512) (q : Fin 128) (h : o + q.val < 8192) :
    (Rect.unit (s := S512x8192) ![0, o] ![512, 128] inb).emb (ix2 p q) = (ix2 p ⟨o + q.val, h⟩ : S512x8192.Idx) := by
  funext a
  match a with
  | ⟨0, _⟩ => exact Fin.ext ((Rect.idx_unit_val (s := S512x8192) ![0, o] ![512, 128] inb (ix2 p q : S512x128.Idx) 0).trans (Nat.zero_add _))
  | ⟨1, _⟩ => exact Fin.ext (Rect.idx_unit_val (s := S512x8192) ![0, o] ![512, 128] inb (ix2 p q : S512x128.Idx) 1)

include inb in
theorem tile_bound (q : Fin 128) : o + q.val < 8192 := by
  have h : o + 128 ≤ 8192 := inb 1
  omega

include ho in
/-- The stored codes of a group are the block's codes there. -/
theorem piece_code (k : S512x128.Idx) : tileCode (View.ld x (Rect.unit ![0, o] ![512, 128] inb)) k
      = codesBlk x ((Rect.unit (s := S512x8192) ![0, o] ![512, 128] inb).emb k) := by
  obtain ⟨p, q, rfl⟩ : ∃ (p : Fin 512) (q : Fin 128), k = ix2 p q := ⟨k 0, k 1, eq_ix2 k⟩
  have h := tile_bound o inb q
  rw [emb_tile o inb p q h]
  refine (tileCode_apply _ p q).trans ?_
  show _ = clip (brow x p ⟨o + q.val, h⟩ * kInv (gmax (brow x p) ⟨o + q.val, h⟩))
  rw [tmax_tile x o ho inb p ⟨o + q.val, h⟩ (by show 128 * ((o + q.val) / 128) = o; omega), ld_tile x o inb p q h]
  rfl

include ho in
/-- The stored dequantised activations of a group are the block's there. -/
theorem piece_deq (k : S512x128.Idx) : tileDeq (View.ld x (Rect.unit ![0, o] ![512, 128] inb)) k
      = xdBlk x ((Rect.unit (s := S512x8192) ![0, o] ![512, 128] inb).emb k) := by
  obtain ⟨p, q, rfl⟩ : ∃ (p : Fin 512) (q : Fin 128), k = ix2 p q := ⟨k 0, k 1, eq_ix2 k⟩
  have h := tile_bound o inb q
  rw [emb_tile o inb p q h]
  refine (tileDeq_apply _ p q).trans ?_
  show _ = clip (brow x p ⟨o + q.val, h⟩ * kInv (gmax (brow x p) ⟨o + q.val, h⟩)) * kScale (gmax (brow x p) ⟨o + q.val, h⟩)
  rw [tmax_tile x o ho inb p ⟨o + q.val, h⟩ (by show 128 * ((o + q.val) / 128) = o; omega), ld_tile x o inb p q h]
  rfl

/-- The stored scales of a group are the block's there. -/
theorem piece_scale (g : Nat) (hg : o = 128 * g) (inb' : ∀ a, (![0, g] : Fin 2 → Nat) a + (![512, 1] : Fin 2 → Nat) a ≤ S512x64.size a) (k : S512x1.Idx) :
    tileScale (View.ld x (Rect.unit ![0, o] ![512, 128] inb)) k
      = sclBlk x ((Rect.unit (s := S512x64) ![0, g] ![512, 1] inb').emb k) := by
  obtain ⟨p, q, rfl⟩ : ∃ (p : Fin 512) (q : Fin 1), k = ix2 p q := ⟨k 0, k 1, eq_ix2 k⟩
  have hb : g + 1 ≤ 64 := inb' 1
  have he : (Rect.unit (s := S512x64) ![0, g] ![512, 1] inb').emb (ix2 p q) = (ix2 p ⟨g, hb⟩ : S512x64.Idx) := by
    funext a
    match a with
    | ⟨0, _⟩ => exact Fin.ext ((Rect.idx_unit_val (s := S512x64) ![0, g] ![512, 1] inb' (ix2 p q : S512x1.Idx) 0).trans (Nat.zero_add _))
    | ⟨1, _⟩ => exact Fin.ext ((Rect.idx_unit_val (s := S512x64) ![0, g] ![512, 1] inb' (ix2 p q : S512x1.Idx) 1).trans (by show g + q.val = g; omega))
  rw [he]
  refine (tileScale_apply _ p q).trans ?_
  show _ = kScale (gmax (brow x p) (gfirst ⟨g, hb⟩))
  rw [tmax_tile x o (by omega) inb p (gfirst ⟨g, hb⟩) (by show 128 * ((128 * g) / 128) = o; omega)]
end

section
variable (w : Vec Ideal S576x8192 .fp8e4m3) (s : Vec Ideal S5x64 .f32)
  {arg2 : Memref sig .tc .vmem S576x8192 .fp8e4m3} (harg2 : arg2.IsWhole) {arg3 : Memref sig .tc .smem S5x64 .f32} (harg3 : arg3.IsWhole)
  (R o b g : Nat) (hR : R = 128 * b) (ho : o = 128 * g)

include hR ho in
theorem wd_at (n : Nat) (hn : n ≤ 128) (inb : ∀ a, (![R, o] : Fin 2 → Nat) a + (![n, 128] : Fin 2 → Nat) a ≤ S576x8192.size a)
    (inb3 : ∀ a, (![b, g] : Fin 2 → Nat) a + (![1, 1] : Fin 2 → Nat) a ≤ S5x64.size a) (h1 : 0 < S1x1.numel) (p : Fin n) (q : Fin 128) :
    View.readAt (Elt Ideal) arg2.view (Rect.unit (s := S576x8192) ![R, o] ![n, 128] inb).toLoadRect (harg2.unread w) (ix2 p q : (⟨2, ![n, 128]⟩ : Shape).Idx)
      * View.readAt (Elt Ideal) arg3.view (Rect.unit (s := S5x64) ![b, g] ![1, 1] inb3).toLoadRect (harg3.unread s) (Shape.Idx.first h1 : S1x1.Idx)
      = wdBlk w s ((Rect.unit (s := S576x8192) ![R, o] ![n, 128] inb).emb (ix2 p q : (⟨2, ![n, 128]⟩ : Shape).Idx)) := by
  have hRn : R + n ≤ 576 := inb 0
  have hon : o + 128 ≤ 8192 := inb 1
  have hr : R + p.val < 576 := by omega
  have hc : o + q.val < 8192 := by omega
  have hbb : b + 1 ≤ 5 := inb3 0
  have hgg : g + 1 ≤ 64 := inb3 1
  have he : (Rect.unit (s := S576x8192) ![R, o] ![n, 128] inb).emb (ix2 p q : (⟨2, ![n, 128]⟩ : Shape).Idx) = (ix2 ⟨R + p.val, hr⟩ ⟨o + q.val, hc⟩ : S576x8192.Idx) := by
    funext a
    match a with
    | ⟨0, _⟩ => exact Fin.ext (Rect.idx_unit_val (s := S576x8192) ![R, o] ![n, 128] inb (ix2 p q : (⟨2, ![n, 128]⟩ : Shape).Idx) 0)
    | ⟨1, _⟩ => exact Fin.ext (Rect.idx_unit_val (s := S576x8192) ![R, o] ![n, 128] inb (ix2 p q : (⟨2, ![n, 128]⟩ : Shape).Idx) 1)
  have he3 : (Rect.unit (s := S5x64) ![b, g] ![1, 1] inb3).emb (Shape.Idx.first h1 : S1x1.Idx) = (ix2 ⟨b, hbb⟩ ⟨g, hgg⟩ : S5x64.Idx) := by
    funext a
    match a with
    | ⟨0, _⟩ => exact Fin.ext (Rect.idx_unit_val (s := S5x64) ![b, g] ![1, 1] inb3 (Shape.Idx.first h1 : S1x1.Idx) 0)
    | ⟨1, _⟩ => exact Fin.ext (Rect.idx_unit_val (s := S5x64) ![b, g] ![1, 1] inb3 (Shape.Idx.first h1 : S1x1.Idx) 1)
  rw [View.readAt_eq_ld, View.readAt_eq_ld, harg2.read_unread, harg3.read_unread, he]
  show w ((Rect.unit (s := S576x8192) ![R, o] ![n, 128] inb).emb (ix2 p q : (⟨2, ![n, 128]⟩ : Shape).Idx)) * s ((Rect.unit (s := S5x64) ![b, g] ![1, 1] inb3).emb (Shape.Idx.first h1 : S1x1.Idx)) = _
  rw [he, he3]
  show w (ix2 _ _) * s (ix2 _ _) = w (ix2 _ _) * s (ix2 _ _)
  congr 3
  · exact Fin.ext (by show b = (R + p.val) / 128; omega)
  · exact Fin.ext (by show g = (o + q.val) / 128; omega)

include hR ho in
/-- The stored scaled weights of a tile of 128 rows are the scaled weight's there. -/
theorem piece_w128 (inb : ∀ a, (![R, o] : Fin 2 → Nat) a + (![128, 128] : Fin 2 → Nat) a ≤ S576x8192.size a)
    (inb3 : ∀ a, (![b, g] : Fin 2 → Nat) a + (![1, 1] : Fin 2 → Nat) a ≤ S5x64.size a) (h1 : 0 < S1x1.numel) (k : S128x128.Idx) :
    k0_pay3 (F := Ideal) (View.readAt (Elt Ideal) arg3.view (Rect.unit (s := S5x64) ![b, g] ![1, 1] inb3).toLoadRect (harg3.unread s) (Shape.Idx.first h1 : S1x1.Idx))
      (View.readAt (Elt Ideal) arg2.view (Rect.unit (s := S576x8192) ![R, o] ![128, 128] inb).toLoadRect (harg2.unread w)) k
      = wdBlk w s ((Rect.unit (s := S576x8192) ![R, o] ![128, 128] inb).emb k) := by
  obtain ⟨p, q, rfl⟩ : ∃ (p : Fin 128) (q : Fin 128), k = ix2 p q := ⟨k 0, k 1, eq_ix2 k⟩
  rw [← wd_at w s harg2 harg3 R o b g hR ho 128 (le_refl _) inb inb3 h1 p q]
  unfold k0_pay3
  simp only [shapeCast_self]
  rfl

include hR ho in
/-- The stored scaled weights of a tile of 64 rows are the scaled weight's there. -/
theorem piece_w64 (inb : ∀ a, (![R, o] : Fin 2 → Nat) a + (![64, 128] : Fin 2 → Nat) a ≤ S576x8192.size a)
    (inb3 : ∀ a, (![b, g] : Fin 2 → Nat) a + (![1, 1] : Fin 2 → Nat) a ≤ S5x64.size a) (h1 : 0 < S1x1.numel) (k : S64x128.Idx) :
    k0_pay396 (F := Ideal) (View.readAt (Elt Ideal) arg3.view (Rect.unit (s := S5x64) ![b, g] ![1, 1] inb3).toLoadRect (harg3.unread s) (Shape.Idx.first h1 : S1x1.Idx))
      (View.readAt (Elt Ideal) arg2.view (Rect.unit (s := S576x8192) ![R, o] ![64, 128] inb).toLoadRect (harg2.unread w)) k
      = wdBlk w s ((Rect.unit (s := S576x8192) ![R, o] ![64, 128] inb).emb k) := by
  obtain ⟨p, q, rfl⟩ : ∃ (p : Fin 64) (q : Fin 128), k = ix2 p q := ⟨k 0, k 1, eq_ix2 k⟩
  rw [← wd_at w s harg2 harg3 R o b g hR ho 64 (by decide) inb inb3 h1 p q]
  unfold k0_pay396
  simp only [shapeCast_self]
  rfl
end

end Cert.Proof

end
-- ==== Proof.Project.lean ====
/-
  The kernel's projection and its two epilogues read at an index: the product of the scaled weight with the dequantised
  block, its normalised first 512 columns, and its last 64 columns.
-/
module

public import proofs.«01_k».proof.Proof.Blocks
public import Idealize.ShloMosaic.Lib.MatmulPlain
public import Idealize.ShloMosaic.Lib.ValueLayout

@[expose] public section

set_option maxRecDepth 16384

noncomputable section

open scoped BigOperators

namespace Cert.Proof

open Idealize.ShloMosaic hiding ix1 ix2 ix3 ix4 eq_ix1 eq_ix2 eq_ix3 eq_ix4
open Idealize.ShloMosaic.ValueIdx
open Cert.KernelIdeal Cert.KernelIdeal.Gen

/-- A row of a block projected through a weight. -/
def bproj (W : Vec Ideal S576x8192 .bf16) (X : Vec Ideal S512x8192 .bf16) (p : Fin 512) (o : Fin 576) : EReal :=
  ∑ j : Fin 8192, X (ix2 p j) * W (ix2 o j)

/-- The normalised latent of a block. -/
def latBlk (W : Vec Ideal S576x8192 .bf16) (X : Vec Ideal S512x8192 .bf16) (g : Vec Ideal S512x128 .bf16) : Vec Ideal S512x512 .bf16 :=
  fun i => latent (bproj W X (i 0)) (fun o => g (ix2 o 0)) (i 1)

/-- The last 64 projected columns of a block. -/
def ropeBlk (W : Vec Ideal S576x8192 .bf16) (X : Vec Ideal S512x8192 .bf16) : Vec Ideal S512x64 .bf16 :=
  fun i => rope (bproj W X (i 0)) (i 1)

theorem product_apply (W : Vec Ideal S576x8192 .bf16) (X : Vec Ideal S512x8192 .bf16) (o : Fin 576) (p : Fin 512) :
    k0_pay863 (F := Ideal) W X (ix2 o p) = bproj W X p o := by
  refine (Ideal.matmul_transposedRhs_apply (M := 576) (K := 8192) (N := 512) none W X _ o p).trans ?_
  show Ideal.ofBits .f32 0x00000000#32 + _ = _
  rw [Ideal.ofBits_zero_f32, zero_add]
  exact Finset.sum_congr rfl fun j _ => mul_comm _ _

theorem rope_apply (W : Vec Ideal S576x8192 .bf16) (X : Vec Ideal S512x8192 .bf16) (i : S512x64.Idx) :
    k0_pay2 (F := Ideal) (k0_pay863 W X) i = ropeBlk W X i := by
  obtain ⟨p, q, rfl⟩ : ∃ (p : Fin 512) (q : Fin 64), i = ix2 p q := ⟨i 0, i 1, eq_ix2 i⟩
  show transpose S512x64 [1, 0] (extractStridedSlice S64x512 ![512, 0] (k0_pay863 (F := Ideal) W X) slices_S576x512_o512_0_S64x512) transposes_S64x512_p1_0_S512x64 (ix2 p q) = _
  refine (transpose_apply (s := S64x512) (t := S512x64) [1, 0] _ transposes_S64x512_p1_0_S512x64 (ix2 p q) (ix2 q p) (fun b => by match b with | ⟨0, _⟩ => rfl | ⟨1, _⟩ => rfl)).trans ?_
  refine (extractStridedSlice_apply (s := S576x512) (t := S64x512) ![512, 0] _ slices_S576x512_o512_0_S64x512 (ix2 q p) (ix2 (⟨512 + q.val, by omega⟩ : Fin 576) p) (fun a => by match a with | ⟨0, _⟩ => rfl | ⟨1, _⟩ => exact (Nat.zero_add _).symm)).trans ?_
  exact product_apply W X _ p

theorem head_apply (W : Vec Ideal S576x8192 .bf16) (X : Vec Ideal S512x8192 .bf16) (o : Fin 512) (p : Fin 512) :
    extractStridedSlice S512x512 ![0, 0] (k0_pay863 (F := Ideal) W X) slices_S576x512_o0_0_S512x512 (ix2 o p) = bproj W X p ⟨o.val, by omega⟩ :=
  (extractStridedSlice_apply (s := S576x512) (t := S512x512) ![0, 0] _ slices_S576x512_o0_0_S512x512 (ix2 o p) (ix2 (⟨o.val, by omega⟩ : Fin 576) p) (fun a => by match a with | ⟨0, _⟩ => exact (Nat.zero_add _).symm | ⟨1, _⟩ => exact (Nat.zero_add _).symm)).trans
    (product_apply W X _ p)

theorem lift_col (h : S512x512.Reduces [0] S512) (p : Fin 512) (k : Fin 512) : h.lift (ix1 p) k = ix2 k p := by
  funext a; match a with | ⟨0, _⟩ => rfl | ⟨1, _⟩ => rfl

theorem sumsq_apply (Y : FVec Ideal S512x512 .f32) (p : Fin 512) (u : Fin 1) :
    (shapeCast S1x512 (multiReduction .add [0] S512 (mulf Y Y) 0x00000000#32 reduces_S512x512_S512 (.inl rfl) rfl : FVec Ideal S512 .f32) shapeCasts_S512_S1x512 : FVec Ideal S1x512 .f32) (ix2 u p)
      = ∑ k : Fin 512, Y (ix2 k p) * Y (ix2 k p) := by
  rw [shapeCast_a_1a_apply]
  refine (Ideal.multiReduction_add_single _ _ reduces_S512x512_S512 _ _ _).trans ?_
  refine Finset.sum_congr rfl fun k _ => ?_
  exact congrArg (fun i => Y i * Y i) (lift_col reduces_S512x512_S512 p k)

theorem normed_apply (W : Vec Ideal S576x8192 .bf16) (X : Vec Ideal S512x8192 .bf16) (o : Fin 512) (p : Fin 512) :
    k0_pay864 (F := Ideal) W X (ix2 o p) = bproj W X p ⟨o.val, by omega⟩
      * Ideal.rsqrt (Ideal.div (∑ q : Fin 512, bproj W X p ⟨q.val, by omega⟩ * bproj W X p ⟨q.val, by omega⟩)
          (Ideal.ofBits .f32 0x44000000#32) + Ideal.ofBits .f32 0x358637BD#32) := by
  show extractStridedSlice S512x512 ![0, 0] (k0_pay863 (F := Ideal) W X) slices_S576x512_o0_0_S512x512 (ix2 o p)
    * broadcastTo S512x512 _ _ (ix2 o p) = _
  rw [head_apply]
  congr 1
  refine (broadcastTo_apply (s := S1x512) (t := S512x512) _ _ (ix2 o p) (ix2 (0 : Fin 1) p) (fun a => by match a with | ⟨0, _⟩ => rfl | ⟨1, _⟩ => rfl)).trans ?_
  refine congrArg (fun s => Ideal.rsqrt (Ideal.div s (Ideal.ofBits .f32 0x44000000#32) + Ideal.ofBits .f32 0x358637BD#32)) ?_
  refine (sumsq_apply _ p 0).trans ?_
  exact Finset.sum_congr rfl fun k _ => by rw [head_apply]

theorem gain_apply (x3 : Vec Ideal S512x128 .bf16) (inb : ∀ a, (![0, 0] : Fin 2 → Nat) a + (![512, 1] : Fin 2 → Nat) a ≤ S512x128.size a) (o p : Fin 512) :
    k0_pay865 (F := Ideal) (View.ld x3 (Rect.unit ![0, 0] ![512, 1] inb)) (ix2 o p) = x3 (ix2 o 0) := by
  unfold k0_pay865
  simp only [shapeCast_self]
  refine (broadcastTo_apply (s := S512x1) (t := S512x512) _ _ (ix2 o p) (ix2 o (0 : Fin 1)) (fun a => by match a with | ⟨0, _⟩ => rfl | ⟨1, _⟩ => rfl)).trans ?_
  exact View.ld_unit_apply_of x3 ![0, 0] ![512, 1] inb (ix2 o (0 : Fin 1) : S512x1.Idx) (ix2 o 0) (fun a => by
    match a with | ⟨0, _⟩ => exact (Nat.zero_add _).symm | ⟨1, _⟩ => rfl)

theorem latent_apply (W : Vec Ideal S576x8192 .bf16) (X : Vec Ideal S512x8192 .bf16) (x3 : Vec Ideal S512x128 .bf16)
    (inb : ∀ a, (![0, 0] : Fin 2 → Nat) a + (![512, 1] : Fin 2 → Nat) a ≤ S512x128.size a) (i : S512x512.Idx) :
    k0_pay1 (F := Ideal) (k0_pay864 W X) (k0_pay865 (View.ld x3 (Rect.unit ![0, 0] ![512, 1] inb))) i = latBlk W X x3 i := by
  obtain ⟨p, q, rfl⟩ : ∃ (p : Fin 512) (q : Fin 512), i = ix2 p q := ⟨i 0, i 1, eq_ix2 i⟩
  show transpose S512x512 [1, 0] (mulf (F := Ideal) (k0_pay864 W X) (k0_pay865 (View.ld x3 (Rect.unit ![0, 0] ![512, 1] inb)))) transposes_S512x512_p1_0_S512x512 (ix2 p q) = _
  refine (transpose_apply (s := S512x512) (t := S512x512) [1, 0] _ transposes_S512x512_p1_0_S512x512 (ix2 p q) (ix2 q p) (fun b => by match b with | ⟨0, _⟩ => rfl | ⟨1, _⟩ => rfl)).trans ?_
  show k0_pay864 (F := Ideal) W X (ix2 q p) * k0_pay865 (F := Ideal) (View.ld x3 (Rect.unit ![0, 0] ![512, 1] inb)) (ix2 q p) = _
  rw [normed_apply, gain_apply]
  rfl

/-- The whole rectangle places an index at itself. -/
theorem emb_whole (a b : Nat) (inb : ∀ i, (![0, 0] : Fin 2 → Nat) i + (![a, b] : Fin 2 → Nat) i ≤ (⟨2, ![a, b]⟩ : Shape).size i) (k : (⟨2, ![a, b]⟩ : Shape).Idx) :
    (Rect.unit (s := ⟨2, ![a, b]⟩) ![0, 0] ![a, b] inb).emb k = k := by
  funext i
  match i with
  | ⟨0, _⟩ => exact Fin.ext ((Rect.idx_unit_val (s := ⟨2, ![a, b]⟩) ![0, 0] ![a, b] inb k 0).trans (Nat.zero_add _))
  | ⟨1, _⟩ => exact Fin.ext ((Rect.idx_unit_val (s := ⟨2, ![a, b]⟩) ![0, 0] ![a, b] inb k 1).trans (Nat.zero_add _))

/-- A whole load of the scaled weight's buffer reads what its stores left. -/
theorem readCov_wd {sg : RefSig} (v : View sg .tc .vmem S576x8192 .bf16) {L : List (View.Piece (Elt Ideal) S576x8192 .bf16)} {X : Vec Ideal S576x8192 .bf16}
    (inb : ∀ a, (![0, 0] : Fin 2 → Nat) a + (![576, 8192] : Fin 2 → Nat) a ≤ S576x8192.size a) (h : View.canon L = X) :
    v.readCov L (Rect.unit (s := S576x8192) ![0, 0] ![576, 8192] inb).toLoadRect = X := by
  subst h
  rw [View.readCov_eq_canon']
  funext k
  exact congrArg (View.canon L) (emb_whole 576 8192 inb k)

/-- A whole load of the dequantised activations' buffer reads what its stores left. -/
theorem readCov_deq {sg : RefSig} (v : View sg .tc .vmem S512x8192 .bf16) {L : List (View.Piece (Elt Ideal) S512x8192 .bf16)} {X : Vec Ideal S512x8192 .bf16}
    (inb : ∀ a, (![0, 0] : Fin 2 → Nat) a + (![512, 8192] : Fin 2 → Nat) a ≤ S512x8192.size a) (h : View.canon L = X) :
    v.readCov L (Rect.unit (s := S512x8192) ![0, 0] ![512, 8192] inb).toLoadRect = X := by
  subst h
  rw [View.readCov_eq_canon']
  funext k
  exact congrArg (View.canon L) (emb_whole 512 8192 inb k)

/-- A whole load of a kept weight reads it. -/
theorem readAt_wd {arg9 : Memref sig .tc .vmem S576x8192 .bf16} (harg9 : arg9.IsWhole) (X : Vec Ideal S576x8192 .bf16)
    (inb : ∀ a, (![0, 0] : Fin 2 → Nat) a + (![576, 8192] : Fin 2 → Nat) a ≤ S576x8192.size a) :
    View.readAt (Elt Ideal) arg9.view (Rect.unit (s := S576x8192) ![0, 0] ![576, 8192] inb).toLoadRect (harg9.unread X) = X := by
  rw [View.readAt_eq_ld, harg9.read_unread]
  funext k
  exact congrArg X (emb_whole 576 8192 inb k)

end Cert.Proof

end
-- ==== Proof.OutA.lean ====
/-
  What a grid point of case A (the weight scaled at this point) leaves: every store read as a block of one function of the point's inputs.
-/
module

public import proofs.«01_k».proof.Proof.Project
public import proofs.«01_k».proof.Proof.Gen.KernelIdeal.Frame
public import Idealize.ShloMosaic.Lib.Pipeline.ReadBack
public import Idealize.ShloMosaic.Lib.Pipeline.ValueKit

@[expose] public section

set_option maxRecDepth 16384

noncomputable section

namespace Cert.Proof

open Idealize.ShloMosaic Idealize.ShloMosaic.TcCoe Idealize.ShloMosaic.Tactic
open Idealize.SL Idealize.SL.Sem
open Cert.KernelIdeal Cert.KernelIdeal.Gen

/-- The stores of the scaled weight. -/
theorem wd_pieces_A (c : Dev nD) (i : grid0.Coords) (arg1 : Memref sig .tc .vmem S512x8192 .bf16) (harg1 : arg1.IsWhole) (arg2 : Memref sig .tc .vmem S576x8192 .fp8e4m3) (harg2 : arg2.IsWhole) (arg3 : Memref sig .tc .smem S5x64 .f32) (harg3 : arg3.IsWhole) (arg4 : Memref sig .tc .vmem S512x128 .bf16) (harg4 : arg4.IsWhole) (arg5 : Memref sig .tc .vmem S512x512 .bf16) (harg5 : arg5.IsWhole) (arg6 : Memref sig .tc .vmem S512x64 .bf16) (harg6 : arg6.IsWhole) (arg7 : Memref sig .tc .vmem S512x8192 .fp8e4m3) (harg7 : arg7.IsWhole) (arg8 : Memref sig .tc .vmem S512x64 .f32) (harg8 : arg8.IsWhole) (arg9 : Memref sig .tc .vmem S576x8192 .bf16) (harg9 : arg9.IsWhole) (arg10 : Memref sig .tc .vmem S512x8192 .bf16) (harg10 : arg10.IsWhole) (hc0 : cond0_0 i)
    (x0 : Vec Ideal S512x8192 .bf16) (x1 : Vec Ideal S576x8192 .fp8e4m3) (x2 : Vec Ideal S5x64 .f32) (x3 : Vec Ideal S512x128 .bf16) :
    View.PiecesOf (wdBlk x1 x2) (kernelRun0_A (F := Ideal) c i arg1 harg1 arg2 harg2 arg3 harg3 arg4 harg4 arg5 harg5 arg6 harg6 arg7 harg7 arg8 harg8 arg9 harg9 arg10 harg10 hc0 x0 x1 x2 x3).2.2.2.2.1 := by
  frame_open
  refine ⟨piece_w64 x1 x2 harg2 harg3 512 8064 4 63 rfl rfl _ _ _, ?_⟩
  refine ⟨piece_w64 x1 x2 harg2 harg3 512 7936 4 62 rfl rfl _ _ _, ?_⟩
  refine ⟨piece_w64 x1 x2 harg2 harg3 512 7808 4 61 rfl rfl _ _ _, ?_⟩
  refine ⟨piece_w64 x1 x2 harg2 harg3 512 7680 4 60 rfl rfl _ _ _, ?_⟩
  refine ⟨piece_w64 x1 x2 harg2 harg3 512 7552 4 59 rfl rfl _ _ _, ?_⟩
  refine ⟨piece_w64 x1 x2 harg2 harg3 512 7424 4 58 rfl rfl _ _ _, ?_⟩
  refine ⟨piece_w64 x1 x2 harg2 harg3 512 7296 4 57 rfl rfl _ _ _, ?_⟩
  refine ⟨piece_w64 x1 x2 harg2 harg3 512 7168 4 56 rfl rfl _ _ _, ?_⟩
  refine ⟨piece_w64 x1 x2 harg2 harg3 512 7040 4 55 rfl rfl _ _ _, ?_⟩
  refine ⟨piece_w64 x1 x2 harg2 harg3 512 6912 4 54 rfl rfl _ _ _, ?_⟩
  refine ⟨piece_w64 x1 x2 harg2 harg3 512 6784 4 53 rfl rfl _ _ _, ?_⟩
  refine ⟨piece_w64 x1 x2 harg2 harg3 512 6656 4 52 rfl rfl _ _ _, ?_⟩
  refine ⟨piece_w64 x1 x2 harg2 harg3 512 6528 4 51 rfl rfl _ _ _, ?_⟩
  refine ⟨piece_w64 x1 x2 harg2 harg3 512 6400 4 50 rfl rfl _ _ _, ?_⟩
  refine ⟨piece_w64 x1 x2 harg2 harg3 512 6272 4 49 rfl rfl _ _ _, ?_⟩
  refine ⟨piece_w64 x1 x2 harg2 harg3 512 6144 4 48 rfl rfl _ _ _, ?_⟩
  refine ⟨piece_w64 x1 x2 harg2 harg3 512 6016 4 47 rfl rfl _ _ _, ?_⟩
  refine ⟨piece_w64 x1 x2 harg2 harg3 512 5888 4 46 rfl rfl _ _ _, ?_⟩
  refine ⟨piece_w64 x1 x2 harg2 harg3 512 5760 4 45 rfl rfl _ _ _, ?_⟩
  refine ⟨piece_w64 x1 x2 harg2 harg3 512 5632 4 44 rfl rfl _ _ _, ?_⟩
  refine ⟨piece_w64 x1 x2 harg2 harg3 512 5504 4 43 rfl rfl _ _ _, ?_⟩
  refine ⟨piece_w64 x1 x2 harg2 harg3 512 5376 4 42 rfl rfl _ _ _, ?_⟩
  refine ⟨piece_w64 x1 x2 harg2 harg3 512 5248 4 41 rfl rfl _ _ _, ?_⟩
  refine ⟨piece_w64 x1 x2 harg2 harg3 512 5120 4 40 rfl rfl _ _ _, ?_⟩
  refine ⟨piece_w64 x1 x2 harg2 harg3 512 4992 4 39 rfl rfl _ _ _, ?_⟩
  refine ⟨piece_w64 x1 x2 harg2 harg3 512 4864 4 38 rfl rfl _ _ _, ?_⟩
  refine ⟨piece_w64 x1 x2 harg2 harg3 512 4736 4 37 rfl rfl _ _ _, ?_⟩
  refine ⟨piece_w64 x1 x2 harg2 harg3 512 4608 4 36 rfl rfl _ _ _, ?_⟩
  refine ⟨piece_w64 x1 x2 harg2 harg3 512 4480 4 35 rfl rfl _ _ _, ?_⟩
  refine ⟨piece_w64 x1 x2 harg2 harg3 512 4352 4 34 rfl rfl _ _ _, ?_⟩
  refine ⟨piece_w64 x1 x2 harg2 harg3 512 4224 4 33 rfl rfl _ _ _, ?_⟩
  refine ⟨piece_w64 x1 x2 harg2 harg3 512 4096 4 32 rfl rfl _ _ _, ?_⟩
  refine ⟨piece_w64 x1 x2 harg2 harg3 512 3968 4 31 rfl rfl _ _ _, ?_⟩
  refine ⟨piece_w64 x1 x2 harg2 harg3 512 3840 4 30 rfl rfl _ _ _, ?_⟩
  refine ⟨piece_w64 x1 x2 harg2 harg3 512 3712 4 29 rfl rfl _ _ _, ?_⟩
  refine ⟨piece_w64 x1 x2 harg2 harg3 512 3584 4 28 rfl rfl _ _ _, ?_⟩
  refine ⟨piece_w64 x1 x2 harg2 harg3 512 3456 4 27 rfl rfl _ _ _, ?_⟩
  refine ⟨piece_w64 x1 x2 harg2 harg3 512 3328 4 26 rfl rfl _ _ _, ?_⟩
  refine ⟨piece_w64 x1 x2 harg2 harg3 512 3200 4 25 rfl rfl _ _ _, ?_⟩
  refine ⟨piece_w64 x1 x2 harg2 harg3 512 3072 4 24 rfl rfl _ _ _, ?_⟩
  refine ⟨piece_w64 x1 x2 harg2 harg3 512 2944 4 23 rfl rfl _ _ _, ?_⟩
  refine ⟨piece_w64 x1 x2 harg2 harg3 512 2816 4 22 rfl rfl _ _ _, ?_⟩
  refine ⟨piece_w64 x1 x2 harg2 harg3 512 2688 4 21 rfl rfl _ _ _, ?_⟩
  refine ⟨piece_w64 x1 x2 harg2 harg3 512 2560 4 20 rfl rfl _ _ _, ?_⟩
  refine ⟨piece_w64 x1 x2 harg2 harg3 512 2432 4 19 rfl rfl _ _ _, ?_⟩
  refine ⟨piece_w64 x1 x2 harg2 harg3 512 2304 4 18 rfl rfl _ _ _, ?_⟩
  refine ⟨piece_w64 x1 x2 harg2 harg3 512 2176 4 17 rfl rfl _ _ _, ?_⟩
  refine ⟨piece_w64 x1 x2 harg2 harg3 512 2048 4 16 rfl rfl _ _ _, ?_⟩
  refine ⟨piece_w64 x1 x2 harg2 harg3 512 1920 4 15 rfl rfl _ _ _, ?_⟩
  refine ⟨piece_w64 x1 x2 harg2 harg3 512 1792 4 14 rfl rfl _ _ _, ?_⟩
  refine ⟨piece_w64 x1 x2 harg2 harg3 512 1664 4 13 rfl rfl _ _ _, ?_⟩
  refine ⟨piece_w64 x1 x2 harg2 harg3 512 1536 4 12 rfl rfl _ _ _, ?_⟩
  refine ⟨piece_w64 x1 x2 harg2 harg3 512 1408 4 11 rfl rfl _ _ _, ?_⟩
  refine ⟨piece_w64 x1 x2 harg2 harg3 512 1280 4 10 rfl rfl _ _ _, ?_⟩
  refine ⟨piece_w64 x1 x2 harg2 harg3 512 1152 4 9 rfl rfl _ _ _, ?_⟩
  refine ⟨piece_w64 x1 x2 harg2 harg3 512 1024 4 8 rfl rfl _ _ _, ?_⟩
  refine ⟨piece_w64 x1 x2 harg2 harg3 512 896 4 7 rfl rfl _ _ _, ?_⟩
  refine ⟨piece_w64 x1 x2 harg2 harg3 512 768 4 6 rfl rfl _ _ _, ?_⟩
  refine ⟨piece_w64 x1 x2 harg2 harg3 512 640 4 5 rfl rfl _ _ _, ?_⟩
  refine ⟨piece_w64 x1 x2 harg2 harg3 512 512 4 4 rfl rfl _ _ _, ?_⟩
  refine ⟨piece_w64 x1 x2 harg2 harg3 512 384 4 3 rfl rfl _ _ _, ?_⟩
  refine ⟨piece_w64 x1 x2 harg2 harg3 512 256 4 2 rfl rfl _ _ _, ?_⟩
  refine ⟨piece_w64 x1 x2 harg2 harg3 512 128 4 1 rfl rfl _ _ _, ?_⟩
  refine ⟨piece_w64 x1 x2 harg2 harg3 512 0 4 0 rfl rfl _ _ _, ?_⟩
  refine ⟨piece_w128 x1 x2 harg2 harg3 384 8064 3 63 rfl rfl _ _ _, ?_⟩
  refine ⟨piece_w128 x1 x2 harg2 harg3 384 7936 3 62 rfl rfl _ _ _, ?_⟩
  refine ⟨piece_w128 x1 x2 harg2 harg3 384 7808 3 61 rfl rfl _ _ _, ?_⟩
  refine ⟨piece_w128 x1 x2 harg2 harg3 384 7680 3 60 rfl rfl _ _ _, ?_⟩
  refine ⟨piece_w128 x1 x2 harg2 harg3 384 7552 3 59 rfl rfl _ _ _, ?_⟩
  refine ⟨piece_w128 x1 x2 harg2 harg3 384 7424 3 58 rfl rfl _ _ _, ?_⟩
  refine ⟨piece_w128 x1 x2 harg2 harg3 384 7296 3 57 rfl rfl _ _ _, ?_⟩
  refine ⟨piece_w128 x1 x2 harg2 harg3 384 7168 3 56 rfl rfl _ _ _, ?_⟩
  refine ⟨piece_w128 x1 x2 harg2 harg3 384 7040 3 55 rfl rfl _ _ _, ?_⟩
  refine ⟨piece_w128 x1 x2 harg2 harg3 384 6912 3 54 rfl rfl _ _ _, ?_⟩
  refine ⟨piece_w128 x1 x2 harg2 harg3 384 6784 3 53 rfl rfl _ _ _, ?_⟩
  refine ⟨piece_w128 x1 x2 harg2 harg3 384 6656 3 52 rfl rfl _ _ _, ?_⟩
  refine ⟨piece_w128 x1 x2 harg2 harg3 384 6528 3 51 rfl rfl _ _ _, ?_⟩
  refine ⟨piece_w128 x1 x2 harg2 harg3 384 6400 3 50 rfl rfl _ _ _, ?_⟩
  refine ⟨piece_w128 x1 x2 harg2 harg3 384 6272 3 49 rfl rfl _ _ _, ?_⟩
  refine ⟨piece_w128 x1 x2 harg2 harg3 384 6144 3 48 rfl rfl _ _ _, ?_⟩
  refine ⟨piece_w128 x1 x2 harg2 harg3 384 6016 3 47 rfl rfl _ _ _, ?_⟩
  refine ⟨piece_w128 x1 x2 harg2 harg3 384 5888 3 46 rfl rfl _ _ _, ?_⟩
  refine ⟨piece_w128 x1 x2 harg2 harg3 384 5760 3 45 rfl rfl _ _ _, ?_⟩
  refine ⟨piece_w128 x1 x2 harg2 harg3 384 5632 3 44 rfl rfl _ _ _, ?_⟩
  refine ⟨piece_w128 x1 x2 harg2 harg3 384 5504 3 43 rfl rfl _ _ _, ?_⟩
  refine ⟨piece_w128 x1 x2 harg2 harg3 384 5376 3 42 rfl rfl _ _ _, ?_⟩
  refine ⟨piece_w128 x1 x2 harg2 harg3 384 5248 3 41 rfl rfl _ _ _, ?_⟩
  refine ⟨piece_w128 x1 x2 harg2 harg3 384 5120 3 40 rfl rfl _ _ _, ?_⟩
  refine ⟨piece_w128 x1 x2 harg2 harg3 384 4992 3 39 rfl rfl _ _ _, ?_⟩
  refine ⟨piece_w128 x1 x2 harg2 harg3 384 4864 3 38 rfl rfl _ _ _, ?_⟩
  refine ⟨piece_w128 x1 x2 harg2 harg3 384 4736 3 37 rfl rfl _ _ _, ?_⟩
  refine ⟨piece_w128 x1 x2 harg2 harg3 384 4608 3 36 rfl rfl _ _ _, ?_⟩
  refine ⟨piece_w128 x1 x2 harg2 harg3 384 4480 3 35 rfl rfl _ _ _, ?_⟩
  refine ⟨piece_w128 x1 x2 harg2 harg3 384 4352 3 34 rfl rfl _ _ _, ?_⟩
  refine ⟨piece_w128 x1 x2 harg2 harg3 384 4224 3 33 rfl rfl _ _ _, ?_⟩
  refine ⟨piece_w128 x1 x2 harg2 harg3 384 4096 3 32 rfl rfl _ _ _, ?_⟩
  refine ⟨piece_w128 x1 x2 harg2 harg3 384 3968 3 31 rfl rfl _ _ _, ?_⟩
  refine ⟨piece_w128 x1 x2 harg2 harg3 384 3840 3 30 rfl rfl _ _ _, ?_⟩
  refine ⟨piece_w128 x1 x2 harg2 harg3 384 3712 3 29 rfl rfl _ _ _, ?_⟩
  refine ⟨piece_w128 x1 x2 harg2 harg3 384 3584 3 28 rfl rfl _ _ _, ?_⟩
  refine ⟨piece_w128 x1 x2 harg2 harg3 384 3456 3 27 rfl rfl _ _ _, ?_⟩
  refine ⟨piece_w128 x1 x2 harg2 harg3 384 3328 3 26 rfl rfl _ _ _, ?_⟩
  refine ⟨piece_w128 x1 x2 harg2 harg3 384 3200 3 25 rfl rfl _ _ _, ?_⟩
  refine ⟨piece_w128 x1 x2 harg2 harg3 384 3072 3 24 rfl rfl _ _ _, ?_⟩
  refine ⟨piece_w128 x1 x2 harg2 harg3 384 2944 3 23 rfl rfl _ _ _, ?_⟩
  refine ⟨piece_w128 x1 x2 harg2 harg3 384 2816 3 22 rfl rfl _ _ _, ?_⟩
  refine ⟨piece_w128 x1 x2 harg2 harg3 384 2688 3 21 rfl rfl _ _ _, ?_⟩
  refine ⟨piece_w128 x1 x2 harg2 harg3 384 2560 3 20 rfl rfl _ _ _, ?_⟩
  refine ⟨piece_w128 x1 x2 harg2 harg3 384 2432 3 19 rfl rfl _ _ _, ?_⟩
  refine ⟨piece_w128 x1 x2 harg2 harg3 384 2304 3 18 rfl rfl _ _ _, ?_⟩
  refine ⟨piece_w128 x1 x2 harg2 harg3 384 2176 3 17 rfl rfl _ _ _, ?_⟩
  refine ⟨piece_w128 x1 x2 harg2 harg3 384 2048 3 16 rfl rfl _ _ _, ?_⟩
  refine ⟨piece_w128 x1 x2 harg2 harg3 384 1920 3 15 rfl rfl _ _ _, ?_⟩
  refine ⟨piece_w128 x1 x2 harg2 harg3 384 1792 3 14 rfl rfl _ _ _, ?_⟩
  refine ⟨piece_w128 x1 x2 harg2 harg3 384 1664 3 13 rfl rfl _ _ _, ?_⟩
  refine ⟨piece_w128 x1 x2 harg2 harg3 384 1536 3 12 rfl rfl _ _ _, ?_⟩
  refine ⟨piece_w128 x1 x2 harg2 harg3 384 1408 3 11 rfl rfl _ _ _, ?_⟩
  refine ⟨piece_w128 x1 x2 harg2 harg3 384 1280 3 10 rfl rfl _ _ _, ?_⟩
  refine ⟨piece_w128 x1 x2 harg2 harg3 384 1152 3 9 rfl rfl _ _ _, ?_⟩
  refine ⟨piece_w128 x1 x2 harg2 harg3 384 1024 3 8 rfl rfl _ _ _, ?_⟩
  refine ⟨piece_w128 x1 x2 harg2 harg3 384 896 3 7 rfl rfl _ _ _, ?_⟩
  refine ⟨piece_w128 x1 x2 harg2 harg3 384 768 3 6 rfl rfl _ _ _, ?_⟩
  refine ⟨piece_w128 x1 x2 harg2 harg3 384 640 3 5 rfl rfl _ _ _, ?_⟩
  refine ⟨piece_w128 x1 x2 harg2 harg3 384 512 3 4 rfl rfl _ _ _, ?_⟩
  refine ⟨piece_w128 x1 x2 harg2 harg3 384 384 3 3 rfl rfl _ _ _, ?_⟩
  refine ⟨piece_w128 x1 x2 harg2 harg3 384 256 3 2 rfl rfl _ _ _, ?_⟩
  refine ⟨piece_w128 x1 x2 harg2 harg3 384 128 3 1 rfl rfl _ _ _, ?_⟩
  refine ⟨piece_w128 x1 x2 harg2 harg3 384 0 3 0 rfl rfl _ _ _, ?_⟩
  refine ⟨piece_w128 x1 x2 harg2 harg3 256 8064 2 63 rfl rfl _ _ _, ?_⟩
  refine ⟨piece_w128 x1 x2 harg2 harg3 256 7936 2 62 rfl rfl _ _ _, ?_⟩
  refine ⟨piece_w128 x1 x2 harg2 harg3 256 7808 2 61 rfl rfl _ _ _, ?_⟩
  refine ⟨piece_w128 x1 x2 harg2 harg3 256 7680 2 60 rfl rfl _ _ _, ?_⟩
  refine ⟨piece_w128 x1 x2 harg2 harg3 256 7552 2 59 rfl rfl _ _ _, ?_⟩
  refine ⟨piece_w128 x1 x2 harg2 harg3 256 7424 2 58 rfl rfl _ _ _, ?_⟩
  refine ⟨piece_w128 x1 x2 harg2 harg3 256 7296 2 57 rfl rfl _ _ _, ?_⟩
  refine ⟨piece_w128 x1 x2 harg2 harg3 256 7168 2 56 rfl rfl _ _ _, ?_⟩
  refine ⟨piece_w128 x1 x2 harg2 harg3 256 7040 2 55 rfl rfl _ _ _, ?_⟩
  refine ⟨piece_w128 x1 x2 harg2 harg3 256 6912 2 54 rfl rfl _ _ _, ?_⟩
  refine ⟨piece_w128 x1 x2 harg2 harg3 256 6784 2 53 rfl rfl _ _ _, ?_⟩
  refine ⟨piece_w128 x1 x2 harg2 harg3 256 6656 2 52 rfl rfl _ _ _, ?_⟩
  refine ⟨piece_w128 x1 x2 harg2 harg3 256 6528 2 51 rfl rfl _ _ _, ?_⟩
  refine ⟨piece_w128 x1 x2 harg2 harg3 256 6400 2 50 rfl rfl _ _ _, ?_⟩
  refine ⟨piece_w128 x1 x2 harg2 harg3 256 6272 2 49 rfl rfl _ _ _, ?_⟩
  refine ⟨piece_w128 x1 x2 harg2 harg3 256 6144 2 48 rfl rfl _ _ _, ?_⟩
  refine ⟨piece_w128 x1 x2 harg2 harg3 256 6016 2 47 rfl rfl _ _ _, ?_⟩
  refine ⟨piece_w128 x1 x2 harg2 harg3 256 5888 2 46 rfl rfl _ _ _, ?_⟩
  refine ⟨piece_w128 x1 x2 harg2 harg3 256 5760 2 45 rfl rfl _ _ _, ?_⟩
  refine ⟨piece_w128 x1 x2 harg2 harg3 256 5632 2 44 rfl rfl _ _ _, ?_⟩
  refine ⟨piece_w128 x1 x2 harg2 harg3 256 5504 2 43 rfl rfl _ _ _, ?_⟩
  refine ⟨piece_w128 x1 x2 harg2 harg3 256 5376 2 42 rfl rfl _ _ _, ?_⟩
  refine ⟨piece_w128 x1 x2 harg2 harg3 256 5248 2 41 rfl rfl _ _ _, ?_⟩
  refine ⟨piece_w128 x1 x2 harg2 harg3 256 5120 2 40 rfl rfl _ _ _, ?_⟩
  refine ⟨piece_w128 x1 x2 harg2 harg3 256 4992 2 39 rfl rfl _ _ _, ?_⟩
  refine ⟨piece_w128 x1 x2 harg2 harg3 256 4864 2 38 rfl rfl _ _ _, ?_⟩
  refine ⟨piece_w128 x1 x2 harg2 harg3 256 4736 2 37 rfl rfl _ _ _, ?_⟩
  refine ⟨piece_w128 x1 x2 harg2 harg3 256 4608 2 36 rfl rfl _ _ _, ?_⟩
  refine ⟨piece_w128 x1 x2 harg2 harg3 256 4480 2 35 rfl rfl _ _ _, ?_⟩
  refine ⟨piece_w128 x1 x2 harg2 harg3 256 4352 2 34 rfl rfl _ _ _, ?_⟩
  refine ⟨piece_w128 x1 x2 harg2 harg3 256 4224 2 33 rfl rfl _ _ _, ?_⟩
  refine ⟨piece_w128 x1 x2 harg2 harg3 256 4096 2 32 rfl rfl _ _ _, ?_⟩
  refine ⟨piece_w128 x1 x2 harg2 harg3 256 3968 2 31 rfl rfl _ _ _, ?_⟩
  refine ⟨piece_w128 x1 x2 harg2 harg3 256 3840 2 30 rfl rfl _ _ _, ?_⟩
  refine ⟨piece_w128 x1 x2 harg2 harg3 256 3712 2 29 rfl rfl _ _ _, ?_⟩
  refine ⟨piece_w128 x1 x2 harg2 harg3 256 3584 2 28 rfl rfl _ _ _, ?_⟩
  refine ⟨piece_w128 x1 x2 harg2 harg3 256 3456 2 27 rfl rfl _ _ _, ?_⟩
  refine ⟨piece_w128 x1 x2 harg2 harg3 256 3328 2 26 rfl rfl _ _ _, ?_⟩
  refine ⟨piece_w128 x1 x2 harg2 harg3 256 3200 2 25 rfl rfl _ _ _, ?_⟩
  refine ⟨piece_w128 x1 x2 harg2 harg3 256 3072 2 24 rfl rfl _ _ _, ?_⟩
  refine ⟨piece_w128 x1 x2 harg2 harg3 256 2944 2 23 rfl rfl _ _ _, ?_⟩
  refine ⟨piece_w128 x1 x2 harg2 harg3 256 2816 2 22 rfl rfl _ _ _, ?_⟩
  refine ⟨piece_w128 x1 x2 harg2 harg3 256 2688 2 21 rfl rfl _ _ _, ?_⟩
  refine ⟨piece_w128 x1 x2 harg2 harg3 256 2560 2 20 rfl rfl _ _ _, ?_⟩
  refine ⟨piece_w128 x1 x2 harg2 harg3 256 2432 2 19 rfl rfl _ _ _, ?_⟩
  refine ⟨piece_w128 x1 x2 harg2 harg3 256 2304 2 18 rfl rfl _ _ _, ?_⟩
  refine ⟨piece_w128 x1 x2 harg2 harg3 256 2176 2 17 rfl rfl _ _ _, ?_⟩
  refine ⟨piece_w128 x1 x2 harg2 harg3 256 2048 2 16 rfl rfl _ _ _, ?_⟩
  refine ⟨piece_w128 x1 x2 harg2 harg3 256 1920 2 15 rfl rfl _ _ _, ?_⟩
  refine ⟨piece_w128 x1 x2 harg2 harg3 256 1792 2 14 rfl rfl _ _ _, ?_⟩
  refine ⟨piece_w128 x1 x2 harg2 harg3 256 1664 2 13 rfl rfl _ _ _, ?_⟩
  refine ⟨piece_w128 x1 x2 harg2 harg3 256 1536 2 12 rfl rfl _ _ _, ?_⟩
  refine ⟨piece_w128 x1 x2 harg2 harg3 256 1408 2 11 rfl rfl _ _ _, ?_⟩
  refine ⟨piece_w128 x1 x2 harg2 harg3 256 1280 2 10 rfl rfl _ _ _, ?_⟩
  refine ⟨piece_w128 x1 x2 harg2 harg3 256 1152 2 9 rfl rfl _ _ _, ?_⟩
  refine ⟨piece_w128 x1 x2 harg2 harg3 256 1024 2 8 rfl rfl _ _ _, ?_⟩
  refine ⟨piece_w128 x1 x2 harg2 harg3 256 896 2 7 rfl rfl _ _ _, ?_⟩
  refine ⟨piece_w128 x1 x2 harg2 harg3 256 768 2 6 rfl rfl _ _ _, ?_⟩
  refine ⟨piece_w128 x1 x2 harg2 harg3 256 640 2 5 rfl rfl _ _ _, ?_⟩
  refine ⟨piece_w128 x1 x2 harg2 harg3 256 512 2 4 rfl rfl _ _ _, ?_⟩
  refine ⟨piece_w128 x1 x2 harg2 harg3 256 384 2 3 rfl rfl _ _ _, ?_⟩
  refine ⟨piece_w128 x1 x2 harg2 harg3 256 256 2 2 rfl rfl _ _ _, ?_⟩
  refine ⟨piece_w128 x1 x2 harg2 harg3 256 128 2 1 rfl rfl _ _ _, ?_⟩
  refine ⟨piece_w128 x1 x2 harg2 harg3 256 0 2 0 rfl rfl _ _ _, ?_⟩
  refine ⟨piece_w128 x1 x2 harg2 harg3 128 8064 1 63 rfl rfl _ _ _, ?_⟩
  refine ⟨piece_w128 x1 x2 harg2 harg3 128 7936 1 62 rfl rfl _ _ _, ?_⟩
  refine ⟨piece_w128 x1 x2 harg2 harg3 128 7808 1 61 rfl rfl _ _ _, ?_⟩
  refine ⟨piece_w128 x1 x2 harg2 harg3 128 7680 1 60 rfl rfl _ _ _, ?_⟩
  refine ⟨piece_w128 x1 x2 harg2 harg3 128 7552 1 59 rfl rfl _ _ _, ?_⟩
  refine ⟨piece_w128 x1 x2 harg2 harg3 128 7424 1 58 rfl rfl _ _ _, ?_⟩
  refine ⟨piece_w128 x1 x2 harg2 harg3 128 7296 1 57 rfl rfl _ _ _, ?_⟩
  refine ⟨piece_w128 x1 x2 harg2 harg3 128 7168 1 56 rfl rfl _ _ _, ?_⟩
  refine ⟨piece_w128 x1 x2 harg2 harg3 128 7040 1 55 rfl rfl _ _ _, ?_⟩
  refine ⟨piece_w128 x1 x2 harg2 harg3 128 6912 1 54 rfl rfl _ _ _, ?_⟩
  refine ⟨piece_w128 x1 x2 harg2 harg3 128 6784 1 53 rfl rfl _ _ _, ?_⟩
  refine ⟨piece_w128 x1 x2 harg2 harg3 128 6656 1 52 rfl rfl _ _ _, ?_⟩
  refine ⟨piece_w128 x1 x2 harg2 harg3 128 6528 1 51 rfl rfl _ _ _, ?_⟩
  refine ⟨piece_w128 x1 x2 harg2 harg3 128 6400 1 50 rfl rfl _ _ _, ?_⟩
  refine ⟨piece_w128 x1 x2 harg2 harg3 128 6272 1 49 rfl rfl _ _ _, ?_⟩
  refine ⟨piece_w128 x1 x2 harg2 harg3 128 6144 1 48 rfl rfl _ _ _, ?_⟩
  refine ⟨piece_w128 x1 x2 harg2 harg3 128 6016 1 47 rfl rfl _ _ _, ?_⟩
  refine ⟨piece_w128 x1 x2 harg2 harg3 128 5888 1 46 rfl rfl _ _ _, ?_⟩
  refine ⟨piece_w128 x1 x2 harg2 harg3 128 5760 1 45 rfl rfl _ _ _, ?_⟩
  refine ⟨piece_w128 x1 x2 harg2 harg3 128 5632 1 44 rfl rfl _ _ _, ?_⟩
  refine ⟨piece_w128 x1 x2 harg2 harg3 128 5504 1 43 rfl rfl _ _ _, ?_⟩
  refine ⟨piece_w128 x1 x2 harg2 harg3 128 5376 1 42 rfl rfl _ _ _, ?_⟩
  refine ⟨piece_w128 x1 x2 harg2 harg3 128 5248 1 41 rfl rfl _ _ _, ?_⟩
  refine ⟨piece_w128 x1 x2 harg2 harg3 128 5120 1 40 rfl rfl _ _ _, ?_⟩
  refine ⟨piece_w128 x1 x2 harg2 harg3 128 4992 1 39 rfl rfl _ _ _, ?_⟩
  refine ⟨piece_w128 x1 x2 harg2 harg3 128 4864 1 38 rfl rfl _ _ _, ?_⟩
  refine ⟨piece_w128 x1 x2 harg2 harg3 128 4736 1 37 rfl rfl _ _ _, ?_⟩
  refine ⟨piece_w128 x1 x2 harg2 harg3 128 4608 1 36 rfl rfl _ _ _, ?_⟩
  refine ⟨piece_w128 x1 x2 harg2 harg3 128 4480 1 35 rfl rfl _ _ _, ?_⟩
  refine ⟨piece_w128 x1 x2 harg2 harg3 128 4352 1 34 rfl rfl _ _ _, ?_⟩
  refine ⟨piece_w128 x1 x2 harg2 harg3 128 4224 1 33 rfl rfl _ _ _, ?_⟩
  refine ⟨piece_w128 x1 x2 harg2 harg3 128 4096 1 32 rfl rfl _ _ _, ?_⟩
  refine ⟨piece_w128 x1 x2 harg2 harg3 128 3968 1 31 rfl rfl _ _ _, ?_⟩
  refine ⟨piece_w128 x1 x2 harg2 harg3 128 3840 1 30 rfl rfl _ _ _, ?_⟩
  refine ⟨piece_w128 x1 x2 harg2 harg3 128 3712 1 29 rfl rfl _ _ _, ?_⟩
  refine ⟨piece_w128 x1 x2 harg2 harg3 128 3584 1 28 rfl rfl _ _ _, ?_⟩
  refine ⟨piece_w128 x1 x2 harg2 harg3 128 3456 1 27 rfl rfl _ _ _, ?_⟩
  refine ⟨piece_w128 x1 x2 harg2 harg3 128 3328 1 26 rfl rfl _ _ _, ?_⟩
  refine ⟨piece_w128 x1 x2 harg2 harg3 128 3200 1 25 rfl rfl _ _ _, ?_⟩
  refine ⟨piece_w128 x1 x2 harg2 harg3 128 3072 1 24 rfl rfl _ _ _, ?_⟩
  refine ⟨piece_w128 x1 x2 harg2 harg3 128 2944 1 23 rfl rfl _ _ _, ?_⟩
  refine ⟨piece_w128 x1 x2 harg2 harg3 128 2816 1 22 rfl rfl _ _ _, ?_⟩
  refine ⟨piece_w128 x1 x2 harg2 harg3 128 2688 1 21 rfl rfl _ _ _, ?_⟩
  refine ⟨piece_w128 x1 x2 harg2 harg3 128 2560 1 20 rfl rfl _ _ _, ?_⟩
  refine ⟨piece_w128 x1 x2 harg2 harg3 128 2432 1 19 rfl rfl _ _ _, ?_⟩
  refine ⟨piece_w128 x1 x2 harg2 harg3 128 2304 1 18 rfl rfl _ _ _, ?_⟩
  refine ⟨piece_w128 x1 x2 harg2 harg3 128 2176 1 17 rfl rfl _ _ _, ?_⟩
  refine ⟨piece_w128 x1 x2 harg2 harg3 128 2048 1 16 rfl rfl _ _ _, ?_⟩
  refine ⟨piece_w128 x1 x2 harg2 harg3 128 1920 1 15 rfl rfl _ _ _, ?_⟩
  refine ⟨piece_w128 x1 x2 harg2 harg3 128 1792 1 14 rfl rfl _ _ _, ?_⟩
  refine ⟨piece_w128 x1 x2 harg2 harg3 128 1664 1 13 rfl rfl _ _ _, ?_⟩
  refine ⟨piece_w128 x1 x2 harg2 harg3 128 1536 1 12 rfl rfl _ _ _, ?_⟩
  refine ⟨piece_w128 x1 x2 harg2 harg3 128 1408 1 11 rfl rfl _ _ _, ?_⟩
  refine ⟨piece_w128 x1 x2 harg2 harg3 128 1280 1 10 rfl rfl _ _ _, ?_⟩
  refine ⟨piece_w128 x1 x2 harg2 harg3 128 1152 1 9 rfl rfl _ _ _, ?_⟩
  refine ⟨piece_w128 x1 x2 harg2 harg3 128 1024 1 8 rfl rfl _ _ _, ?_⟩
  refine ⟨piece_w128 x1 x2 harg2 harg3 128 896 1 7 rfl rfl _ _ _, ?_⟩
  refine ⟨piece_w128 x1 x2 harg2 harg3 128 768 1 6 rfl rfl _ _ _, ?_⟩
  refine ⟨piece_w128 x1 x2 harg2 harg3 128 640 1 5 rfl rfl _ _ _, ?_⟩
  refine ⟨piece_w128 x1 x2 harg2 harg3 128 512 1 4 rfl rfl _ _ _, ?_⟩
  refine ⟨piece_w128 x1 x2 harg2 harg3 128 384 1 3 rfl rfl _ _ _, ?_⟩
  refine ⟨piece_w128 x1 x2 harg2 harg3 128 256 1 2 rfl rfl _ _ _, ?_⟩
  refine ⟨piece_w128 x1 x2 harg2 harg3 128 128 1 1 rfl rfl _ _ _, ?_⟩
  refine ⟨piece_w128 x1 x2 harg2 harg3 128 0 1 0 rfl rfl _ _ _, ?_⟩
  refine ⟨piece_w128 x1 x2 harg2 harg3 0 8064 0 63 rfl rfl _ _ _, ?_⟩
  refine ⟨piece_w128 x1 x2 harg2 harg3 0 7936 0 62 rfl rfl _ _ _, ?_⟩
  refine ⟨piece_w128 x1 x2 harg2 harg3 0 7808 0 61 rfl rfl _ _ _, ?_⟩
  refine ⟨piece_w128 x1 x2 harg2 harg3 0 7680 0 60 rfl rfl _ _ _, ?_⟩
  refine ⟨piece_w128 x1 x2 harg2 harg3 0 7552 0 59 rfl rfl _ _ _, ?_⟩
  refine ⟨piece_w128 x1 x2 harg2 harg3 0 7424 0 58 rfl rfl _ _ _, ?_⟩
  refine ⟨piece_w128 x1 x2 harg2 harg3 0 7296 0 57 rfl rfl _ _ _, ?_⟩
  refine ⟨piece_w128 x1 x2 harg2 harg3 0 7168 0 56 rfl rfl _ _ _, ?_⟩
  refine ⟨piece_w128 x1 x2 harg2 harg3 0 7040 0 55 rfl rfl _ _ _, ?_⟩
  refine ⟨piece_w128 x1 x2 harg2 harg3 0 6912 0 54 rfl rfl _ _ _, ?_⟩
  refine ⟨piece_w128 x1 x2 harg2 harg3 0 6784 0 53 rfl rfl _ _ _, ?_⟩
  refine ⟨piece_w128 x1 x2 harg2 harg3 0 6656 0 52 rfl rfl _ _ _, ?_⟩
  refine ⟨piece_w128 x1 x2 harg2 harg3 0 6528 0 51 rfl rfl _ _ _, ?_⟩
  refine ⟨piece_w128 x1 x2 harg2 harg3 0 6400 0 50 rfl rfl _ _ _, ?_⟩
  refine ⟨piece_w128 x1 x2 harg2 harg3 0 6272 0 49 rfl rfl _ _ _, ?_⟩
  refine ⟨piece_w128 x1 x2 harg2 harg3 0 6144 0 48 rfl rfl _ _ _, ?_⟩
  refine ⟨piece_w128 x1 x2 harg2 harg3 0 6016 0 47 rfl rfl _ _ _, ?_⟩
  refine ⟨piece_w128 x1 x2 harg2 harg3 0 5888 0 46 rfl rfl _ _ _, ?_⟩
  refine ⟨piece_w128 x1 x2 harg2 harg3 0 5760 0 45 rfl rfl _ _ _, ?_⟩
  refine ⟨piece_w128 x1 x2 harg2 harg3 0 5632 0 44 rfl rfl _ _ _, ?_⟩
  refine ⟨piece_w128 x1 x2 harg2 harg3 0 5504 0 43 rfl rfl _ _ _, ?_⟩
  refine ⟨piece_w128 x1 x2 harg2 harg3 0 5376 0 42 rfl rfl _ _ _, ?_⟩
  refine ⟨piece_w128 x1 x2 harg2 harg3 0 5248 0 41 rfl rfl _ _ _, ?_⟩
  refine ⟨piece_w128 x1 x2 harg2 harg3 0 5120 0 40 rfl rfl _ _ _, ?_⟩
  refine ⟨piece_w128 x1 x2 harg2 harg3 0 4992 0 39 rfl rfl _ _ _, ?_⟩
  refine ⟨piece_w128 x1 x2 harg2 harg3 0 4864 0 38 rfl rfl _ _ _, ?_⟩
  refine ⟨piece_w128 x1 x2 harg2 harg3 0 4736 0 37 rfl rfl _ _ _, ?_⟩
  refine ⟨piece_w128 x1 x2 harg2 harg3 0 4608 0 36 rfl rfl _ _ _, ?_⟩
  refine ⟨piece_w128 x1 x2 harg2 harg3 0 4480 0 35 rfl rfl _ _ _, ?_⟩
  refine ⟨piece_w128 x1 x2 harg2 harg3 0 4352 0 34 rfl rfl _ _ _, ?_⟩
  refine ⟨piece_w128 x1 x2 harg2 harg3 0 4224 0 33 rfl rfl _ _ _, ?_⟩
  refine ⟨piece_w128 x1 x2 harg2 harg3 0 4096 0 32 rfl rfl _ _ _, ?_⟩
  refine ⟨piece_w128 x1 x2 harg2 harg3 0 3968 0 31 rfl rfl _ _ _, ?_⟩
  refine ⟨piece_w128 x1 x2 harg2 harg3 0 3840 0 30 rfl rfl _ _ _, ?_⟩
  refine ⟨piece_w128 x1 x2 harg2 harg3 0 3712 0 29 rfl rfl _ _ _, ?_⟩
  refine ⟨piece_w128 x1 x2 harg2 harg3 0 3584 0 28 rfl rfl _ _ _, ?_⟩
  refine ⟨piece_w128 x1 x2 harg2 harg3 0 3456 0 27 rfl rfl _ _ _, ?_⟩
  refine ⟨piece_w128 x1 x2 harg2 harg3 0 3328 0 26 rfl rfl _ _ _, ?_⟩
  refine ⟨piece_w128 x1 x2 harg2 harg3 0 3200 0 25 rfl rfl _ _ _, ?_⟩
  refine ⟨piece_w128 x1 x2 harg2 harg3 0 3072 0 24 rfl rfl _ _ _, ?_⟩
  refine ⟨piece_w128 x1 x2 harg2 harg3 0 2944 0 23 rfl rfl _ _ _, ?_⟩
  refine ⟨piece_w128 x1 x2 harg2 harg3 0 2816 0 22 rfl rfl _ _ _, ?_⟩
  refine ⟨piece_w128 x1 x2 harg2 harg3 0 2688 0 21 rfl rfl _ _ _, ?_⟩
  refine ⟨piece_w128 x1 x2 harg2 harg3 0 2560 0 20 rfl rfl _ _ _, ?_⟩
  refine ⟨piece_w128 x1 x2 harg2 harg3 0 2432 0 19 rfl rfl _ _ _, ?_⟩
  refine ⟨piece_w128 x1 x2 harg2 harg3 0 2304 0 18 rfl rfl _ _ _, ?_⟩
  refine ⟨piece_w128 x1 x2 harg2 harg3 0 2176 0 17 rfl rfl _ _ _, ?_⟩
  refine ⟨piece_w128 x1 x2 harg2 harg3 0 2048 0 16 rfl rfl _ _ _, ?_⟩
  refine ⟨piece_w128 x1 x2 harg2 harg3 0 1920 0 15 rfl rfl _ _ _, ?_⟩
  refine ⟨piece_w128 x1 x2 harg2 harg3 0 1792 0 14 rfl rfl _ _ _, ?_⟩
  refine ⟨piece_w128 x1 x2 harg2 harg3 0 1664 0 13 rfl rfl _ _ _, ?_⟩
  refine ⟨piece_w128 x1 x2 harg2 harg3 0 1536 0 12 rfl rfl _ _ _, ?_⟩
  refine ⟨piece_w128 x1 x2 harg2 harg3 0 1408 0 11 rfl rfl _ _ _, ?_⟩
  refine ⟨piece_w128 x1 x2 harg2 harg3 0 1280 0 10 rfl rfl _ _ _, ?_⟩
  refine ⟨piece_w128 x1 x2 harg2 harg3 0 1152 0 9 rfl rfl _ _ _, ?_⟩
  refine ⟨piece_w128 x1 x2 harg2 harg3 0 1024 0 8 rfl rfl _ _ _, ?_⟩
  refine ⟨piece_w128 x1 x2 harg2 harg3 0 896 0 7 rfl rfl _ _ _, ?_⟩
  refine ⟨piece_w128 x1 x2 harg2 harg3 0 768 0 6 rfl rfl _ _ _, ?_⟩
  refine ⟨piece_w128 x1 x2 harg2 harg3 0 640 0 5 rfl rfl _ _ _, ?_⟩
  refine ⟨piece_w128 x1 x2 harg2 harg3 0 512 0 4 rfl rfl _ _ _, ?_⟩
  refine ⟨piece_w128 x1 x2 harg2 harg3 0 384 0 3 rfl rfl _ _ _, ?_⟩
  refine ⟨piece_w128 x1 x2 harg2 harg3 0 256 0 2 rfl rfl _ _ _, ?_⟩
  refine ⟨piece_w128 x1 x2 harg2 harg3 0 128 0 1 rfl rfl _ _ _, ?_⟩
  refine ⟨piece_w128 x1 x2 harg2 harg3 0 0 0 0 rfl rfl _ _ _, ?_⟩
  exact trivial

/-- The scaled weight's buffer holds the scaled weight. -/
theorem wd_canon_A (c : Dev nD) (i : grid0.Coords) (arg1 : Memref sig .tc .vmem S512x8192 .bf16) (harg1 : arg1.IsWhole) (arg2 : Memref sig .tc .vmem S576x8192 .fp8e4m3) (harg2 : arg2.IsWhole) (arg3 : Memref sig .tc .smem S5x64 .f32) (harg3 : arg3.IsWhole) (arg4 : Memref sig .tc .vmem S512x128 .bf16) (harg4 : arg4.IsWhole) (arg5 : Memref sig .tc .vmem S512x512 .bf16) (harg5 : arg5.IsWhole) (arg6 : Memref sig .tc .vmem S512x64 .bf16) (harg6 : arg6.IsWhole) (arg7 : Memref sig .tc .vmem S512x8192 .fp8e4m3) (harg7 : arg7.IsWhole) (arg8 : Memref sig .tc .vmem S512x64 .f32) (harg8 : arg8.IsWhole) (arg9 : Memref sig .tc .vmem S576x8192 .bf16) (harg9 : arg9.IsWhole) (arg10 : Memref sig .tc .vmem S512x8192 .bf16) (harg10 : arg10.IsWhole) (hc0 : cond0_0 i)
    (x0 : Vec Ideal S512x8192 .bf16) (x1 : Vec Ideal S576x8192 .fp8e4m3) (x2 : Vec Ideal S5x64 .f32) (x3 : Vec Ideal S512x128 .bf16) :
    View.canon (kernelRun0_A (F := Ideal) c i arg1 harg1 arg2 harg2 arg3 harg3 arg4 harg4 arg5 harg5 arg6 harg6 arg7 harg7 arg8 harg8 arg9 harg9 arg10 harg10 hc0 x0 x1 x2 x3).2.2.2.2.1 = wdBlk x1 x2 := by
  funext y
  exact View.canon_apply_of_pieces _ _ (View.PiecesOf.mem (wd_pieces_A c i arg1 harg1 arg2 harg2 arg3 harg3 arg4 harg4 arg5 harg5 arg6 harg6 arg7 harg7 arg8 harg8 arg9 harg9 arg10 harg10 hc0 x0 x1 x2 x3)) y (scover0_A_0 c i arg1 harg1 arg2 harg2 arg3 harg3 arg4 harg4 arg5 harg5 arg6 harg6 arg7 harg7 arg8 harg8 arg9 harg9 arg10 harg10 hc0 x0 x1 x2 x3 y)

/-- The scaled weight a point leaves. -/
theorem sout_A (c : Dev nD) (i : grid0.Coords) (arg1 : Memref sig .tc .vmem S512x8192 .bf16) (harg1 : arg1.IsWhole) (arg2 : Memref sig .tc .vmem S576x8192 .fp8e4m3) (harg2 : arg2.IsWhole) (arg3 : Memref sig .tc .smem S5x64 .f32) (harg3 : arg3.IsWhole) (arg4 : Memref sig .tc .vmem S512x128 .bf16) (harg4 : arg4.IsWhole) (arg5 : Memref sig .tc .vmem S512x512 .bf16) (harg5 : arg5.IsWhole) (arg6 : Memref sig .tc .vmem S512x64 .bf16) (harg6 : arg6.IsWhole) (arg7 : Memref sig .tc .vmem S512x8192 .fp8e4m3) (harg7 : arg7.IsWhole) (arg8 : Memref sig .tc .vmem S512x64 .f32) (harg8 : arg8.IsWhole) (arg9 : Memref sig .tc .vmem S576x8192 .bf16) (harg9 : arg9.IsWhole) (arg10 : Memref sig .tc .vmem S512x8192 .bf16) (harg10 : arg10.IsWhole) (hc0 : cond0_0 i)
    (x0 : Vec Ideal S512x8192 .bf16) (x1 : Vec Ideal S576x8192 .fp8e4m3) (x2 : Vec Ideal S5x64 .f32) (x3 : Vec Ideal S512x128 .bf16) :
    sout0_A_0 (F := Ideal) c i arg1 harg1 arg2 harg2 arg3 harg3 arg4 harg4 arg5 harg5 arg6 harg6 arg7 harg7 arg8 harg8 arg9 harg9 arg10 harg10 hc0 x0 x1 x2 x3 = wdBlk x1 x2 := by
  unfold sout0_A_0
  rw [View.read_writes_junk_eq_canon, wd_canon_A]

/-- The stores of the codes. -/
theorem codes_pieces_A (c : Dev nD) (i : grid0.Coords) (arg1 : Memref sig .tc .vmem S512x8192 .bf16) (harg1 : arg1.IsWhole) (arg2 : Memref sig .tc .vmem S576x8192 .fp8e4m3) (harg2 : arg2.IsWhole) (arg3 : Memref sig .tc .smem S5x64 .f32) (harg3 : arg3.IsWhole) (arg4 : Memref sig .tc .vmem S512x128 .bf16) (harg4 : arg4.IsWhole) (arg5 : Memref sig .tc .vmem S512x512 .bf16) (harg5 : arg5.IsWhole) (arg6 : Memref sig .tc .vmem S512x64 .bf16) (harg6 : arg6.IsWhole) (arg7 : Memref sig .tc .vmem S512x8192 .fp8e4m3) (harg7 : arg7.IsWhole) (arg8 : Memref sig .tc .vmem S512x64 .f32) (harg8 : arg8.IsWhole) (arg9 : Memref sig .tc .vmem S576x8192 .bf16) (harg9 : arg9.IsWhole) (arg10 : Memref sig .tc .vmem S512x8192 .bf16) (harg10 : arg10.IsWhole) (hc0 : cond0_0 i)
    (x0 : Vec Ideal S512x8192 .bf16) (x1 : Vec Ideal S576x8192 .fp8e4m3) (x2 : Vec Ideal S5x64 .f32) (x3 : Vec Ideal S512x128 .bf16) :
    View.PiecesOf (codesBlk x0) (kernelRun0_A (F := Ideal) c i arg1 harg1 arg2 harg2 arg3 harg3 arg4 harg4 arg5 harg5 arg6 harg6 arg7 harg7 arg8 harg8 arg9 harg9 arg10 harg10 hc0 x0 x1 x2 x3).2.2.1 := by
  frame_open
  simp only [View.readAt_eq_ld, Memref.IsWhole.read_unread]
  refine ⟨piece_code x0 8064 (by decide) _, ?_⟩
  refine ⟨piece_code x0 7936 (by decide) _, ?_⟩
  refine ⟨piece_code x0 7808 (by decide) _, ?_⟩
  refine ⟨piece_code x0 7680 (by decide) _, ?_⟩
  refine ⟨piece_code x0 7552 (by decide) _, ?_⟩
  refine ⟨piece_code x0 7424 (by decide) _, ?_⟩
  refine ⟨piece_code x0 7296 (by decide) _, ?_⟩
  refine ⟨piece_code x0 7168 (by decide) _, ?_⟩
  refine ⟨piece_code x0 7040 (by decide) _, ?_⟩
  refine ⟨piece_code x0 6912 (by decide) _, ?_⟩
  refine ⟨piece_code x0 6784 (by decide) _, ?_⟩
  refine ⟨piece_code x0 6656 (by decide) _, ?_⟩
  refine ⟨piece_code x0 6528 (by decide) _, ?_⟩
  refine ⟨piece_code x0 6400 (by decide) _, ?_⟩
  refine ⟨piece_code x0 6272 (by decide) _, ?_⟩
  refine ⟨piece_code x0 6144 (by decide) _, ?_⟩
  refine ⟨piece_code x0 6016 (by decide) _, ?_⟩
  refine ⟨piece_code x0 5888 (by decide) _, ?_⟩
  refine ⟨piece_code x0 5760 (by decide) _, ?_⟩
  refine ⟨piece_code x0 5632 (by decide) _, ?_⟩
  refine ⟨piece_code x0 5504 (by decide) _, ?_⟩
  refine ⟨piece_code x0 5376 (by decide) _, ?_⟩
  refine ⟨piece_code x0 5248 (by decide) _, ?_⟩
  refine ⟨piece_code x0 5120 (by decide) _, ?_⟩
  refine ⟨piece_code x0 4992 (by decide) _, ?_⟩
  refine ⟨piece_code x0 4864 (by decide) _, ?_⟩
  refine ⟨piece_code x0 4736 (by decide) _, ?_⟩
  refine ⟨piece_code x0 4608 (by decide) _, ?_⟩
  refine ⟨piece_code x0 4480 (by decide) _, ?_⟩
  refine ⟨piece_code x0 4352 (by decide) _, ?_⟩
  refine ⟨piece_code x0 4224 (by decide) _, ?_⟩
  refine ⟨piece_code x0 4096 (by decide) _, ?_⟩
  refine ⟨piece_code x0 3968 (by decide) _, ?_⟩
  refine ⟨piece_code x0 3840 (by decide) _, ?_⟩
  refine ⟨piece_code x0 3712 (by decide) _, ?_⟩
  refine ⟨piece_code x0 3584 (by decide) _, ?_⟩
  refine ⟨piece_code x0 3456 (by decide) _, ?_⟩
  refine ⟨piece_code x0 3328 (by decide) _, ?_⟩
  refine ⟨piece_code x0 3200 (by decide) _, ?_⟩
  refine ⟨piece_code x0 3072 (by decide) _, ?_⟩
  refine ⟨piece_code x0 2944 (by decide) _, ?_⟩
  refine ⟨piece_code x0 2816 (by decide) _, ?_⟩
  refine ⟨piece_code x0 2688 (by decide) _, ?_⟩
  refine ⟨piece_code x0 2560 (by decide) _, ?_⟩
  refine ⟨piece_code x0 2432 (by decide) _, ?_⟩
  refine ⟨piece_code x0 2304 (by decide) _, ?_⟩
  refine ⟨piece_code x0 2176 (by decide) _, ?_⟩
  refine ⟨piece_code x0 2048 (by decide) _, ?_⟩
  refine ⟨piece_code x0 1920 (by decide) _, ?_⟩
  refine ⟨piece_code x0 1792 (by decide) _, ?_⟩
  refine ⟨piece_code x0 1664 (by decide) _, ?_⟩
  refine ⟨piece_code x0 1536 (by decide) _, ?_⟩
  refine ⟨piece_code x0 1408 (by decide) _, ?_⟩
  refine ⟨piece_code x0 1280 (by decide) _, ?_⟩
  refine ⟨piece_code x0 1152 (by decide) _, ?_⟩
  refine ⟨piece_code x0 1024 (by decide) _, ?_⟩
  refine ⟨piece_code x0 896 (by decide) _, ?_⟩
  refine ⟨piece_code x0 768 (by decide) _, ?_⟩
  refine ⟨piece_code x0 640 (by decide) _, ?_⟩
  refine ⟨piece_code x0 512 (by decide) _, ?_⟩
  refine ⟨piece_code x0 384 (by decide) _, ?_⟩
  refine ⟨piece_code x0 256 (by decide) _, ?_⟩
  refine ⟨piece_code x0 128 (by decide) _, ?_⟩
  refine ⟨piece_code x0 0 (by decide) _, ?_⟩
  exact trivial

/-- The stores of the scales. -/
theorem scales_pieces_A (c : Dev nD) (i : grid0.Coords) (arg1 : Memref sig .tc .vmem S512x8192 .bf16) (harg1 : arg1.IsWhole) (arg2 : Memref sig .tc .vmem S576x8192 .fp8e4m3) (harg2 : arg2.IsWhole) (arg3 : Memref sig .tc .smem S5x64 .f32) (harg3 : arg3.IsWhole) (arg4 : Memref sig .tc .vmem S512x128 .bf16) (harg4 : arg4.IsWhole) (arg5 : Memref sig .tc .vmem S512x512 .bf16) (harg5 : arg5.IsWhole) (arg6 : Memref sig .tc .vmem S512x64 .bf16) (harg6 : arg6.IsWhole) (arg7 : Memref sig .tc .vmem S512x8192 .fp8e4m3) (harg7 : arg7.IsWhole) (arg8 : Memref sig .tc .vmem S512x64 .f32) (harg8 : arg8.IsWhole) (arg9 : Memref sig .tc .vmem S576x8192 .bf16) (harg9 : arg9.IsWhole) (arg10 : Memref sig .tc .vmem S512x8192 .bf16) (harg10 : arg10.IsWhole) (hc0 : cond0_0 i)
    (x0 : Vec Ideal S512x8192 .bf16) (x1 : Vec Ideal S576x8192 .fp8e4m3) (x2 : Vec Ideal S5x64 .f32) (x3 : Vec Ideal S512x128 .bf16) :
    View.PiecesOf (sclBlk x0) (kernelRun0_A (F := Ideal) c i arg1 harg1 arg2 harg2 arg3 harg3 arg4 harg4 arg5 harg5 arg6 harg6 arg7 harg7 arg8 harg8 arg9 harg9 arg10 harg10 hc0 x0 x1 x2 x3).2.2.2.1 := by
  frame_open
  simp only [View.readAt_eq_ld, Memref.IsWhole.read_unread]
  refine ⟨piece_scale x0 8064 inb_S512x8192_S512x128_0_8064 63 rfl inb_S512x64_S512x1_0_63, ?_⟩
  refine ⟨piece_scale x0 7936 inb_S512x8192_S512x128_0_7936 62 rfl inb_S512x64_S512x1_0_62, ?_⟩
  refine ⟨piece_scale x0 7808 inb_S512x8192_S512x128_0_7808 61 rfl inb_S512x64_S512x1_0_61, ?_⟩
  refine ⟨piece_scale x0 7680 inb_S512x8192_S512x128_0_7680 60 rfl inb_S512x64_S512x1_0_60, ?_⟩
  refine ⟨piece_scale x0 7552 inb_S512x8192_S512x128_0_7552 59 rfl inb_S512x64_S512x1_0_59, ?_⟩
  refine ⟨piece_scale x0 7424 inb_S512x8192_S512x128_0_7424 58 rfl inb_S512x64_S512x1_0_58, ?_⟩
  refine ⟨piece_scale x0 7296 inb_S512x8192_S512x128_0_7296 57 rfl inb_S512x64_S512x1_0_57, ?_⟩
  refine ⟨piece_scale x0 7168 inb_S512x8192_S512x128_0_7168 56 rfl inb_S512x64_S512x1_0_56, ?_⟩
  refine ⟨piece_scale x0 7040 inb_S512x8192_S512x128_0_7040 55 rfl inb_S512x64_S512x1_0_55, ?_⟩
  refine ⟨piece_scale x0 6912 inb_S512x8192_S512x128_0_6912 54 rfl inb_S512x64_S512x1_0_54, ?_⟩
  refine ⟨piece_scale x0 6784 inb_S512x8192_S512x128_0_6784 53 rfl inb_S512x64_S512x1_0_53, ?_⟩
  refine ⟨piece_scale x0 6656 inb_S512x8192_S512x128_0_6656 52 rfl inb_S512x64_S512x1_0_52, ?_⟩
  refine ⟨piece_scale x0 6528 inb_S512x8192_S512x128_0_6528 51 rfl inb_S512x64_S512x1_0_51, ?_⟩
  refine ⟨piece_scale x0 6400 inb_S512x8192_S512x128_0_6400 50 rfl inb_S512x64_S512x1_0_50, ?_⟩
  refine ⟨piece_scale x0 6272 inb_S512x8192_S512x128_0_6272 49 rfl inb_S512x64_S512x1_0_49, ?_⟩
  refine ⟨piece_scale x0 6144 inb_S512x8192_S512x128_0_6144 48 rfl inb_S512x64_S512x1_0_48, ?_⟩
  refine ⟨piece_scale x0 6016 inb_S512x8192_S512x128_0_6016 47 rfl inb_S512x64_S512x1_0_47, ?_⟩
  refine ⟨piece_scale x0 5888 inb_S512x8192_S512x128_0_5888 46 rfl inb_S512x64_S512x1_0_46, ?_⟩
  refine ⟨piece_scale x0 5760 inb_S512x8192_S512x128_0_5760 45 rfl inb_S512x64_S512x1_0_45, ?_⟩
  refine ⟨piece_scale x0 5632 inb_S512x8192_S512x128_0_5632 44 rfl inb_S512x64_S512x1_0_44, ?_⟩
  refine ⟨piece_scale x0 5504 inb_S512x8192_S512x128_0_5504 43 rfl inb_S512x64_S512x1_0_43, ?_⟩
  refine ⟨piece_scale x0 5376 inb_S512x8192_S512x128_0_5376 42 rfl inb_S512x64_S512x1_0_42, ?_⟩
  refine ⟨piece_scale x0 5248 inb_S512x8192_S512x128_0_5248 41 rfl inb_S512x64_S512x1_0_41, ?_⟩
  refine ⟨piece_scale x0 5120 inb_S512x8192_S512x128_0_5120 40 rfl inb_S512x64_S512x1_0_40, ?_⟩
  refine ⟨piece_scale x0 4992 inb_S512x8192_S512x128_0_4992 39 rfl inb_S512x64_S512x1_0_39, ?_⟩
  refine ⟨piece_scale x0 4864 inb_S512x8192_S512x128_0_4864 38 rfl inb_S512x64_S512x1_0_38, ?_⟩
  refine ⟨piece_scale x0 4736 inb_S512x8192_S512x128_0_4736 37 rfl inb_S512x64_S512x1_0_37, ?_⟩
  refine ⟨piece_scale x0 4608 inb_S512x8192_S512x128_0_4608 36 rfl inb_S512x64_S512x1_0_36, ?_⟩
  refine ⟨piece_scale x0 4480 inb_S512x8192_S512x128_0_4480 35 rfl inb_S512x64_S512x1_0_35, ?_⟩
  refine ⟨piece_scale x0 4352 inb_S512x8192_S512x128_0_4352 34 rfl inb_S512x64_S512x1_0_34, ?_⟩
  refine ⟨piece_scale x0 4224 inb_S512x8192_S512x128_0_4224 33 rfl inb_S512x64_S512x1_0_33, ?_⟩
  refine ⟨piece_scale x0 4096 inb_S512x8192_S512x128_0_4096 32 rfl inb_S512x64_S512x1_0_32, ?_⟩
  refine ⟨piece_scale x0 3968 inb_S512x8192_S512x128_0_3968 31 rfl inb_S512x64_S512x1_0_31, ?_⟩
  refine ⟨piece_scale x0 3840 inb_S512x8192_S512x128_0_3840 30 rfl inb_S512x64_S512x1_0_30, ?_⟩
  refine ⟨piece_scale x0 3712 inb_S512x8192_S512x128_0_3712 29 rfl inb_S512x64_S512x1_0_29, ?_⟩
  refine ⟨piece_scale x0 3584 inb_S512x8192_S512x128_0_3584 28 rfl inb_S512x64_S512x1_0_28, ?_⟩
  refine ⟨piece_scale x0 3456 inb_S512x8192_S512x128_0_3456 27 rfl inb_S512x64_S512x1_0_27, ?_⟩
  refine ⟨piece_scale x0 3328 inb_S512x8192_S512x128_0_3328 26 rfl inb_S512x64_S512x1_0_26, ?_⟩
  refine ⟨piece_scale x0 3200 inb_S512x8192_S512x128_0_3200 25 rfl inb_S512x64_S512x1_0_25, ?_⟩
  refine ⟨piece_scale x0 3072 inb_S512x8192_S512x128_0_3072 24 rfl inb_S512x64_S512x1_0_24, ?_⟩
  refine ⟨piece_scale x0 2944 inb_S512x8192_S512x128_0_2944 23 rfl inb_S512x64_S512x1_0_23, ?_⟩
  refine ⟨piece_scale x0 2816 inb_S512x8192_S512x128_0_2816 22 rfl inb_S512x64_S512x1_0_22, ?_⟩
  refine ⟨piece_scale x0 2688 inb_S512x8192_S512x128_0_2688 21 rfl inb_S512x64_S512x1_0_21, ?_⟩
  refine ⟨piece_scale x0 2560 inb_S512x8192_S512x128_0_2560 20 rfl inb_S512x64_S512x1_0_20, ?_⟩
  refine ⟨piece_scale x0 2432 inb_S512x8192_S512x128_0_2432 19 rfl inb_S512x64_S512x1_0_19, ?_⟩
  refine ⟨piece_scale x0 2304 inb_S512x8192_S512x128_0_2304 18 rfl inb_S512x64_S512x1_0_18, ?_⟩
  refine ⟨piece_scale x0 2176 inb_S512x8192_S512x128_0_2176 17 rfl inb_S512x64_S512x1_0_17, ?_⟩
  refine ⟨piece_scale x0 2048 inb_S512x8192_S512x128_0_2048 16 rfl inb_S512x64_S512x1_0_16, ?_⟩
  refine ⟨piece_scale x0 1920 inb_S512x8192_S512x128_0_1920 15 rfl inb_S512x64_S512x1_0_15, ?_⟩
  refine ⟨piece_scale x0 1792 inb_S512x8192_S512x128_0_1792 14 rfl inb_S512x64_S512x1_0_14, ?_⟩
  refine ⟨piece_scale x0 1664 inb_S512x8192_S512x128_0_1664 13 rfl inb_S512x64_S512x1_0_13, ?_⟩
  refine ⟨piece_scale x0 1536 inb_S512x8192_S512x128_0_1536 12 rfl inb_S512x64_S512x1_0_12, ?_⟩
  refine ⟨piece_scale x0 1408 inb_S512x8192_S512x128_0_1408 11 rfl inb_S512x64_S512x1_0_11, ?_⟩
  refine ⟨piece_scale x0 1280 inb_S512x8192_S512x128_0_1280 10 rfl inb_S512x64_S512x1_0_10, ?_⟩
  refine ⟨piece_scale x0 1152 inb_S512x8192_S512x128_0_1152 9 rfl inb_S512x64_S512x1_0_9, ?_⟩
  refine ⟨piece_scale x0 1024 inb_S512x8192_S512x128_0_1024 8 rfl inb_S512x64_S512x1_0_8, ?_⟩
  refine ⟨piece_scale x0 896 inb_S512x8192_S512x128_0_896 7 rfl inb_S512x64_S512x1_0_7, ?_⟩
  refine ⟨piece_scale x0 768 inb_S512x8192_S512x128_0_768 6 rfl inb_S512x64_S512x1_0_6, ?_⟩
  refine ⟨piece_scale x0 640 inb_S512x8192_S512x128_0_640 5 rfl inb_S512x64_S512x1_0_5, ?_⟩
  refine ⟨piece_scale x0 512 inb_S512x8192_S512x128_0_512 4 rfl inb_S512x64_S512x1_0_4, ?_⟩
  refine ⟨piece_scale x0 384 inb_S512x8192_S512x128_0_384 3 rfl inb_S512x64_S512x1_0_3, ?_⟩
  refine ⟨piece_scale x0 256 inb_S512x8192_S512x128_0_256 2 rfl inb_S512x64_S512x1_0_2, ?_⟩
  refine ⟨piece_scale x0 128 inb_S512x8192_S512x128_0_128 1 rfl inb_S512x64_S512x1_0_1, ?_⟩
  refine ⟨piece_scale x0 0 inb_S512x8192_S512x128_0_0 0 rfl inb_S512x64_S512x1_0_0, ?_⟩
  exact trivial

/-- The stores of the dequantised activations. -/
theorem deq_pieces_A (c : Dev nD) (i : grid0.Coords) (arg1 : Memref sig .tc .vmem S512x8192 .bf16) (harg1 : arg1.IsWhole) (arg2 : Memref sig .tc .vmem S576x8192 .fp8e4m3) (harg2 : arg2.IsWhole) (arg3 : Memref sig .tc .smem S5x64 .f32) (harg3 : arg3.IsWhole) (arg4 : Memref sig .tc .vmem S512x128 .bf16) (harg4 : arg4.IsWhole) (arg5 : Memref sig .tc .vmem S512x512 .bf16) (harg5 : arg5.IsWhole) (arg6 : Memref sig .tc .vmem S512x64 .bf16) (harg6 : arg6.IsWhole) (arg7 : Memref sig .tc .vmem S512x8192 .fp8e4m3) (harg7 : arg7.IsWhole) (arg8 : Memref sig .tc .vmem S512x64 .f32) (harg8 : arg8.IsWhole) (arg9 : Memref sig .tc .vmem S576x8192 .bf16) (harg9 : arg9.IsWhole) (arg10 : Memref sig .tc .vmem S512x8192 .bf16) (harg10 : arg10.IsWhole) (hc0 : cond0_0 i)
    (x0 : Vec Ideal S512x8192 .bf16) (x1 : Vec Ideal S576x8192 .fp8e4m3) (x2 : Vec Ideal S5x64 .f32) (x3 : Vec Ideal S512x128 .bf16) :
    View.PiecesOf (xdBlk x0) (kernelRun0_A (F := Ideal) c i arg1 harg1 arg2 harg2 arg3 harg3 arg4 harg4 arg5 harg5 arg6 harg6 arg7 harg7 arg8 harg8 arg9 harg9 arg10 harg10 hc0 x0 x1 x2 x3).2.2.2.2.2.1 := by
  frame_open
  simp only [View.readAt_eq_ld, Memref.IsWhole.read_unread]
  refine ⟨piece_deq x0 8064 (by decide) _, ?_⟩
  refine ⟨piece_deq x0 7936 (by decide) _, ?_⟩
  refine ⟨piece_deq x0 7808 (by decide) _, ?_⟩
  refine ⟨piece_deq x0 7680 (by decide) _, ?_⟩
  refine ⟨piece_deq x0 7552 (by decide) _, ?_⟩
  refine ⟨piece_deq x0 7424 (by decide) _, ?_⟩
  refine ⟨piece_deq x0 7296 (by decide) _, ?_⟩
  refine ⟨piece_deq x0 7168 (by decide) _, ?_⟩
  refine ⟨piece_deq x0 7040 (by decide) _, ?_⟩
  refine ⟨piece_deq x0 6912 (by decide) _, ?_⟩
  refine ⟨piece_deq x0 6784 (by decide) _, ?_⟩
  refine ⟨piece_deq x0 6656 (by decide) _, ?_⟩
  refine ⟨piece_deq x0 6528 (by decide) _, ?_⟩
  refine ⟨piece_deq x0 6400 (by decide) _, ?_⟩
  refine ⟨piece_deq x0 6272 (by decide) _, ?_⟩
  refine ⟨piece_deq x0 6144 (by decide) _, ?_⟩
  refine ⟨piece_deq x0 6016 (by decide) _, ?_⟩
  refine ⟨piece_deq x0 5888 (by decide) _, ?_⟩
  refine ⟨piece_deq x0 5760 (by decide) _, ?_⟩
  refine ⟨piece_deq x0 5632 (by decide) _, ?_⟩
  refine ⟨piece_deq x0 5504 (by decide) _, ?_⟩
  refine ⟨piece_deq x0 5376 (by decide) _, ?_⟩
  refine ⟨piece_deq x0 5248 (by decide) _, ?_⟩
  refine ⟨piece_deq x0 5120 (by decide) _, ?_⟩
  refine ⟨piece_deq x0 4992 (by decide) _, ?_⟩
  refine ⟨piece_deq x0 4864 (by decide) _, ?_⟩
  refine ⟨piece_deq x0 4736 (by decide) _, ?_⟩
  refine ⟨piece_deq x0 4608 (by decide) _, ?_⟩
  refine ⟨piece_deq x0 4480 (by decide) _, ?_⟩
  refine ⟨piece_deq x0 4352 (by decide) _, ?_⟩
  refine ⟨piece_deq x0 4224 (by decide) _, ?_⟩
  refine ⟨piece_deq x0 4096 (by decide) _, ?_⟩
  refine ⟨piece_deq x0 3968 (by decide) _, ?_⟩
  refine ⟨piece_deq x0 3840 (by decide) _, ?_⟩
  refine ⟨piece_deq x0 3712 (by decide) _, ?_⟩
  refine ⟨piece_deq x0 3584 (by decide) _, ?_⟩
  refine ⟨piece_deq x0 3456 (by decide) _, ?_⟩
  refine ⟨piece_deq x0 3328 (by decide) _, ?_⟩
  refine ⟨piece_deq x0 3200 (by decide) _, ?_⟩
  refine ⟨piece_deq x0 3072 (by decide) _, ?_⟩
  refine ⟨piece_deq x0 2944 (by decide) _, ?_⟩
  refine ⟨piece_deq x0 2816 (by decide) _, ?_⟩
  refine ⟨piece_deq x0 2688 (by decide) _, ?_⟩
  refine ⟨piece_deq x0 2560 (by decide) _, ?_⟩
  refine ⟨piece_deq x0 2432 (by decide) _, ?_⟩
  refine ⟨piece_deq x0 2304 (by decide) _, ?_⟩
  refine ⟨piece_deq x0 2176 (by decide) _, ?_⟩
  refine ⟨piece_deq x0 2048 (by decide) _, ?_⟩
  refine ⟨piece_deq x0 1920 (by decide) _, ?_⟩
  refine ⟨piece_deq x0 1792 (by decide) _, ?_⟩
  refine ⟨piece_deq x0 1664 (by decide) _, ?_⟩
  refine ⟨piece_deq x0 1536 (by decide) _, ?_⟩
  refine ⟨piece_deq x0 1408 (by decide) _, ?_⟩
  refine ⟨piece_deq x0 1280 (by decide) _, ?_⟩
  refine ⟨piece_deq x0 1152 (by decide) _, ?_⟩
  refine ⟨piece_deq x0 1024 (by decide) _, ?_⟩
  refine ⟨piece_deq x0 896 (by decide) _, ?_⟩
  refine ⟨piece_deq x0 768 (by decide) _, ?_⟩
  refine ⟨piece_deq x0 640 (by decide) _, ?_⟩
  refine ⟨piece_deq x0 512 (by decide) _, ?_⟩
  refine ⟨piece_deq x0 384 (by decide) _, ?_⟩
  refine ⟨piece_deq x0 256 (by decide) _, ?_⟩
  refine ⟨piece_deq x0 128 (by decide) _, ?_⟩
  refine ⟨piece_deq x0 0 (by decide) _, ?_⟩
  exact trivial

/-- The dequantised activations' buffer holds the dequantised block. -/
theorem deq_canon_A (c : Dev nD) (i : grid0.Coords) (arg1 : Memref sig .tc .vmem S512x8192 .bf16) (harg1 : arg1.IsWhole) (arg2 : Memref sig .tc .vmem S576x8192 .fp8e4m3) (harg2 : arg2.IsWhole) (arg3 : Memref sig .tc .smem S5x64 .f32) (harg3 : arg3.IsWhole) (arg4 : Memref sig .tc .vmem S512x128 .bf16) (harg4 : arg4.IsWhole) (arg5 : Memref sig .tc .vmem S512x512 .bf16) (harg5 : arg5.IsWhole) (arg6 : Memref sig .tc .vmem S512x64 .bf16) (harg6 : arg6.IsWhole) (arg7 : Memref sig .tc .vmem S512x8192 .fp8e4m3) (harg7 : arg7.IsWhole) (arg8 : Memref sig .tc .vmem S512x64 .f32) (harg8 : arg8.IsWhole) (arg9 : Memref sig .tc .vmem S576x8192 .bf16) (harg9 : arg9.IsWhole) (arg10 : Memref sig .tc .vmem S512x8192 .bf16) (harg10 : arg10.IsWhole) (hc0 : cond0_0 i)
    (x0 : Vec Ideal S512x8192 .bf16) (x1 : Vec Ideal S576x8192 .fp8e4m3) (x2 : Vec Ideal S5x64 .f32) (x3 : Vec Ideal S512x128 .bf16) :
    View.canon (kernelRun0_A (F := Ideal) c i arg1 harg1 arg2 harg2 arg3 harg3 arg4 harg4 arg5 harg5 arg6 harg6 arg7 harg7 arg8 harg8 arg9 harg9 arg10 harg10 hc0 x0 x1 x2 x3).2.2.2.2.2.1 = xdBlk x0 := by
  funext y
  exact View.canon_apply_of_pieces _ _ (View.PiecesOf.mem (deq_pieces_A c i arg1 harg1 arg2 harg2 arg3 harg3 arg4 harg4 arg5 harg5 arg6 harg6 arg7 harg7 arg8 harg8 arg9 harg9 arg10 harg10 hc0 x0 x1 x2 x3)) y
    (View.cover_of_tiledL (kernelRun0_A (F := Ideal) c i arg1 harg1 arg2 harg2 arg3 harg3 arg4 harg4 arg5 harg5 arg6 harg6 arg7 harg7 arg8 harg8 arg9 harg9 arg10 harg10 hc0 x0 x1 x2 x3).2.2.2.2.2.1 S512x128.size (by sl_kernel_rfl) y)

/-- The codes a point leaves. -/
theorem codes_A (c : Dev nD) (i : grid0.Coords) (arg1 : Memref sig .tc .vmem S512x8192 .bf16) (harg1 : arg1.IsWhole) (arg2 : Memref sig .tc .vmem S576x8192 .fp8e4m3) (harg2 : arg2.IsWhole) (arg3 : Memref sig .tc .smem S5x64 .f32) (harg3 : arg3.IsWhole) (arg4 : Memref sig .tc .vmem S512x128 .bf16) (harg4 : arg4.IsWhole) (arg5 : Memref sig .tc .vmem S512x512 .bf16) (harg5 : arg5.IsWhole) (arg6 : Memref sig .tc .vmem S512x64 .bf16) (harg6 : arg6.IsWhole) (arg7 : Memref sig .tc .vmem S512x8192 .fp8e4m3) (harg7 : arg7.IsWhole) (arg8 : Memref sig .tc .vmem S512x64 .f32) (harg8 : arg8.IsWhole) (arg9 : Memref sig .tc .vmem S576x8192 .bf16) (harg9 : arg9.IsWhole) (arg10 : Memref sig .tc .vmem S512x8192 .bf16) (harg10 : arg10.IsWhole) (hc0 : cond0_0 i)
    (x0 : Vec Ideal S512x8192 .bf16) (x1 : Vec Ideal S576x8192 .fp8e4m3) (x2 : Vec Ideal S5x64 .f32) (x3 : Vec Ideal S512x128 .bf16) :
    out0_A_6 (F := Ideal) c i arg1 harg1 arg2 harg2 arg3 harg3 arg4 harg4 arg5 harg5 arg6 harg6 arg7 harg7 arg8 harg8 arg9 harg9 arg10 harg10 hc0 x0 x1 x2 x3 = codesBlk x0 := by
  unfold out0_A_6
  rw [View.read_writes_junk_eq_canon]
  funext y
  exact View.canon_apply_of_pieces _ _ (View.PiecesOf.mem (codes_pieces_A c i arg1 harg1 arg2 harg2 arg3 harg3 arg4 harg4 arg5 harg5 arg6 harg6 arg7 harg7 arg8 harg8 arg9 harg9 arg10 harg10 hc0 x0 x1 x2 x3)) y (cover0_A_6 c i arg1 harg1 arg2 harg2 arg3 harg3 arg4 harg4 arg5 harg5 arg6 harg6 arg7 harg7 arg8 harg8 arg9 harg9 arg10 harg10 hc0 x0 x1 x2 x3 y)

/-- The scales a point leaves. -/
theorem scales_A (c : Dev nD) (i : grid0.Coords) (arg1 : Memref sig .tc .vmem S512x8192 .bf16) (harg1 : arg1.IsWhole) (arg2 : Memref sig .tc .vmem S576x8192 .fp8e4m3) (harg2 : arg2.IsWhole) (arg3 : Memref sig .tc .smem S5x64 .f32) (harg3 : arg3.IsWhole) (arg4 : Memref sig .tc .vmem S512x128 .bf16) (harg4 : arg4.IsWhole) (arg5 : Memref sig .tc .vmem S512x512 .bf16) (harg5 : arg5.IsWhole) (arg6 : Memref sig .tc .vmem S512x64 .bf16) (harg6 : arg6.IsWhole) (arg7 : Memref sig .tc .vmem S512x8192 .fp8e4m3) (harg7 : arg7.IsWhole) (arg8 : Memref sig .tc .vmem S512x64 .f32) (harg8 : arg8.IsWhole) (arg9 : Memref sig .tc .vmem S576x8192 .bf16) (harg9 : arg9.IsWhole) (arg10 : Memref sig .tc .vmem S512x8192 .bf16) (harg10 : arg10.IsWhole) (hc0 : cond0_0 i)
    (x0 : Vec Ideal S512x8192 .bf16) (x1 : Vec Ideal S576x8192 .fp8e4m3) (x2 : Vec Ideal S5x64 .f32) (x3 : Vec Ideal S512x128 .bf16) :
    out0_A_7 (F := Ideal) c i arg1 harg1 arg2 harg2 arg3 harg3 arg4 harg4 arg5 harg5 arg6 harg6 arg7 harg7 arg8 harg8 arg9 harg9 arg10 harg10 hc0 x0 x1 x2 x3 = sclBlk x0 := by
  unfold out0_A_7
  rw [View.read_writes_junk_eq_canon]
  funext y
  exact View.canon_apply_of_pieces _ _ (View.PiecesOf.mem (scales_pieces_A c i arg1 harg1 arg2 harg2 arg3 harg3 arg4 harg4 arg5 harg5 arg6 harg6 arg7 harg7 arg8 harg8 arg9 harg9 arg10 harg10 hc0 x0 x1 x2 x3)) y (cover0_A_7 c i arg1 harg1 arg2 harg2 arg3 harg3 arg4 harg4 arg5 harg5 arg6 harg6 arg7 harg7 arg8 harg8 arg9 harg9 arg10 harg10 hc0 x0 x1 x2 x3 y)

/-- The store of the latent. -/
theorem latent_pieces_A (c : Dev nD) (i : grid0.Coords) (arg1 : Memref sig .tc .vmem S512x8192 .bf16) (harg1 : arg1.IsWhole) (arg2 : Memref sig .tc .vmem S576x8192 .fp8e4m3) (harg2 : arg2.IsWhole) (arg3 : Memref sig .tc .smem S5x64 .f32) (harg3 : arg3.IsWhole) (arg4 : Memref sig .tc .vmem S512x128 .bf16) (harg4 : arg4.IsWhole) (arg5 : Memref sig .tc .vmem S512x512 .bf16) (harg5 : arg5.IsWhole) (arg6 : Memref sig .tc .vmem S512x64 .bf16) (harg6 : arg6.IsWhole) (arg7 : Memref sig .tc .vmem S512x8192 .fp8e4m3) (harg7 : arg7.IsWhole) (arg8 : Memref sig .tc .vmem S512x64 .f32) (harg8 : arg8.IsWhole) (arg9 : Memref sig .tc .vmem S576x8192 .bf16) (harg9 : arg9.IsWhole) (arg10 : Memref sig .tc .vmem S512x8192 .bf16) (harg10 : arg10.IsWhole) (hc0 : cond0_0 i)
    (x0 : Vec Ideal S512x8192 .bf16) (x1 : Vec Ideal S576x8192 .fp8e4m3) (x2 : Vec Ideal S5x64 .f32) (x3 : Vec Ideal S512x128 .bf16) :
    View.PiecesOf (latBlk (wdBlk x1 x2) (xdBlk x0) x3) (kernelRun0_A (F := Ideal) c i arg1 harg1 arg2 harg2 arg3 harg3 arg4 harg4 arg5 harg5 arg6 harg6 arg7 harg7 arg8 harg8 arg9 harg9 arg10 harg10 hc0 x0 x1 x2 x3).1 := by
  have keyW := wd_canon_A c i arg1 harg1 arg2 harg2 arg3 harg3 arg4 harg4 arg5 harg5 arg6 harg6 arg7 harg7 arg8 harg8 arg9 harg9 arg10 harg10 hc0 x0 x1 x2 x3
  have key := deq_canon_A c i arg1 harg1 arg2 harg2 arg3 harg3 arg4 harg4 arg5 harg5 arg6 harg6 arg7 harg7 arg8 harg8 arg9 harg9 arg10 harg10 hc0 x0 x1 x2 x3
  revert key keyW
  frame_open
  intro keyW key
  rw [readCov_deq _ _ key, readCov_wd _ _ keyW]
  clear key keyW
  simp only [View.readAt_eq_ld, Memref.IsWhole.read_unread]
  exact ⟨fun k => (latent_apply _ _ x3 _ k).trans (congrArg _ (emb_whole 512 512 inb_S512x512_S512x512_0_0 k).symm), trivial⟩

/-- The latent a point leaves. -/
theorem latent_A (c : Dev nD) (i : grid0.Coords) (arg1 : Memref sig .tc .vmem S512x8192 .bf16) (harg1 : arg1.IsWhole) (arg2 : Memref sig .tc .vmem S576x8192 .fp8e4m3) (harg2 : arg2.IsWhole) (arg3 : Memref sig .tc .smem S5x64 .f32) (harg3 : arg3.IsWhole) (arg4 : Memref sig .tc .vmem S512x128 .bf16) (harg4 : arg4.IsWhole) (arg5 : Memref sig .tc .vmem S512x512 .bf16) (harg5 : arg5.IsWhole) (arg6 : Memref sig .tc .vmem S512x64 .bf16) (harg6 : arg6.IsWhole) (arg7 : Memref sig .tc .vmem S512x8192 .fp8e4m3) (harg7 : arg7.IsWhole) (arg8 : Memref sig .tc .vmem S512x64 .f32) (harg8 : arg8.IsWhole) (arg9 : Memref sig .tc .vmem S576x8192 .bf16) (harg9 : arg9.IsWhole) (arg10 : Memref sig .tc .vmem S512x8192 .bf16) (harg10 : arg10.IsWhole) (hc0 : cond0_0 i)
    (x0 : Vec Ideal S512x8192 .bf16) (x1 : Vec Ideal S576x8192 .fp8e4m3) (x2 : Vec Ideal S5x64 .f32) (x3 : Vec Ideal S512x128 .bf16) :
    out0_A_4 (F := Ideal) c i arg1 harg1 arg2 harg2 arg3 harg3 arg4 harg4 arg5 harg5 arg6 harg6 arg7 harg7 arg8 harg8 arg9 harg9 arg10 harg10 hc0 x0 x1 x2 x3 = latBlk (wdBlk x1 x2) (xdBlk x0) x3 := by
  unfold out0_A_4
  rw [View.read_writes_junk_eq_canon]
  funext y
  exact View.canon_apply_of_pieces _ _ (View.PiecesOf.mem (latent_pieces_A c i arg1 harg1 arg2 harg2 arg3 harg3 arg4 harg4 arg5 harg5 arg6 harg6 arg7 harg7 arg8 harg8 arg9 harg9 arg10 harg10 hc0 x0 x1 x2 x3)) y (cover0_A_4 c i arg1 harg1 arg2 harg2 arg3 harg3 arg4 harg4 arg5 harg5 arg6 harg6 arg7 harg7 arg8 harg8 arg9 harg9 arg10 harg10 hc0 x0 x1 x2 x3 y)
/-- The store of the rope. -/
theorem rope_pieces_A (c : Dev nD) (i : grid0.Coords) (arg1 : Memref sig .tc .vmem S512x8192 .bf16) (harg1 : arg1.IsWhole) (arg2 : Memref sig .tc .vmem S576x8192 .fp8e4m3) (harg2 : arg2.IsWhole) (arg3 : Memref sig .tc .smem S5x64 .f32) (harg3 : arg3.IsWhole) (arg4 : Memref sig .tc .vmem S512x128 .bf16) (harg4 : arg4.IsWhole) (arg5 : Memref sig .tc .vmem S512x512 .bf16) (harg5 : arg5.IsWhole) (arg6 : Memref sig .tc .vmem S512x64 .bf16) (harg6 : arg6.IsWhole) (arg7 : Memref sig .tc .vmem S512x8192 .fp8e4m3) (harg7 : arg7.IsWhole) (arg8 : Memref sig .tc .vmem S512x64 .f32) (harg8 : arg8.IsWhole) (arg9 : Memref sig .tc .vmem S576x8192 .bf16) (harg9 : arg9.IsWhole) (arg10 : Memref sig .tc .vmem S512x8192 .bf16) (harg10 : arg10.IsWhole) (hc0 : cond0_0 i)
    (x0 : Vec Ideal S512x8192 .bf16) (x1 : Vec Ideal S576x8192 .fp8e4m3) (x2 : Vec Ideal S5x64 .f32) (x3 : Vec Ideal S512x128 .bf16) :
    View.PiecesOf (ropeBlk (wdBlk x1 x2) (xdBlk x0)) (kernelRun0_A (F := Ideal) c i arg1 harg1 arg2 harg2 arg3 harg3 arg4 harg4 arg5 harg5 arg6 harg6 arg7 harg7 arg8 harg8 arg9 harg9 arg10 harg10 hc0 x0 x1 x2 x3).2.1 := by
  have keyW := wd_canon_A c i arg1 harg1 arg2 harg2 arg3 harg3 arg4 harg4 arg5 harg5 arg6 harg6 arg7 harg7 arg8 harg8 arg9 harg9 arg10 harg10 hc0 x0 x1 x2 x3
  have key := deq_canon_A c i arg1 harg1 arg2 harg2 arg3 harg3 arg4 harg4 arg5 harg5 arg6 harg6 arg7 harg7 arg8 harg8 arg9 harg9 arg10 harg10 hc0 x0 x1 x2 x3
  revert key keyW
  frame_open
  intro keyW key
  rw [readCov_deq _ _ key, readCov_wd _ _ keyW]
  clear key keyW

  exact ⟨fun k => (rope_apply _ _ k).trans (congrArg _ (emb_whole 512 64 inb_S512x64_S512x64_0_0 k).symm), trivial⟩

/-- The rope a point leaves. -/
theorem rope_A (c : Dev nD) (i : grid0.Coords) (arg1 : Memref sig .tc .vmem S512x8192 .bf16) (harg1 : arg1.IsWhole) (arg2 : Memref sig .tc .vmem S576x8192 .fp8e4m3) (harg2 : arg2.IsWhole) (arg3 : Memref sig .tc .smem S5x64 .f32) (harg3 : arg3.IsWhole) (arg4 : Memref sig .tc .vmem S512x128 .bf16) (harg4 : arg4.IsWhole) (arg5 : Memref sig .tc .vmem S512x512 .bf16) (harg5 : arg5.IsWhole) (arg6 : Memref sig .tc .vmem S512x64 .bf16) (harg6 : arg6.IsWhole) (arg7 : Memref sig .tc .vmem S512x8192 .fp8e4m3) (harg7 : arg7.IsWhole) (arg8 : Memref sig .tc .vmem S512x64 .f32) (harg8 : arg8.IsWhole) (arg9 : Memref sig .tc .vmem S576x8192 .bf16) (harg9 : arg9.IsWhole) (arg10 : Memref sig .tc .vmem S512x8192 .bf16) (harg10 : arg10.IsWhole) (hc0 : cond0_0 i)
    (x0 : Vec Ideal S512x8192 .bf16) (x1 : Vec Ideal S576x8192 .fp8e4m3) (x2 : Vec Ideal S5x64 .f32) (x3 : Vec Ideal S512x128 .bf16) :
    out0_A_5 (F := Ideal) c i arg1 harg1 arg2 harg2 arg3 harg3 arg4 harg4 arg5 harg5 arg6 harg6 arg7 harg7 arg8 harg8 arg9 harg9 arg10 harg10 hc0 x0 x1 x2 x3 = ropeBlk (wdBlk x1 x2) (xdBlk x0) := by
  unfold out0_A_5
  rw [View.read_writes_junk_eq_canon]
  funext y
  exact View.canon_apply_of_pieces _ _ (View.PiecesOf.mem (rope_pieces_A c i arg1 harg1 arg2 harg2 arg3 harg3 arg4 harg4 arg5 harg5 arg6 harg6 arg7 harg7 arg8 harg8 arg9 harg9 arg10 harg10 hc0 x0 x1 x2 x3)) y (cover0_A_5 c i arg1 harg1 arg2 harg2 arg3 harg3 arg4 harg4 arg5 harg5 arg6 harg6 arg7 harg7 arg8 harg8 arg9 harg9 arg10 harg10 hc0 x0 x1 x2 x3 y)
end Cert.Proof

end
-- ==== Proof.OutB.lean ====
/-
  What a grid point of case B (the weight kept from an earlier point) leaves: every store read as a block of one function of the point's inputs.
-/
module

public import proofs.«01_k».proof.Proof.Project
public import proofs.«01_k».proof.Proof.Gen.KernelIdeal.Frame
public import Idealize.ShloMosaic.Lib.Pipeline.ReadBack
public import Idealize.ShloMosaic.Lib.Pipeline.ValueKit

@[expose] public section

set_option maxRecDepth 16384

noncomputable section

namespace Cert.Proof

open Idealize.ShloMosaic Idealize.ShloMosaic.TcCoe Idealize.ShloMosaic.Tactic
open Idealize.SL Idealize.SL.Sem
open Cert.KernelIdeal Cert.KernelIdeal.Gen

/-- The stores of the codes. -/
theorem codes_pieces_B (c : Dev nD) (i : grid0.Coords) (arg1 : Memref sig .tc .vmem S512x8192 .bf16) (harg1 : arg1.IsWhole) (arg2 : Memref sig .tc .vmem S576x8192 .fp8e4m3) (harg2 : arg2.IsWhole) (arg3 : Memref sig .tc .smem S5x64 .f32) (harg3 : arg3.IsWhole) (arg4 : Memref sig .tc .vmem S512x128 .bf16) (harg4 : arg4.IsWhole) (arg5 : Memref sig .tc .vmem S512x512 .bf16) (harg5 : arg5.IsWhole) (arg6 : Memref sig .tc .vmem S512x64 .bf16) (harg6 : arg6.IsWhole) (arg7 : Memref sig .tc .vmem S512x8192 .fp8e4m3) (harg7 : arg7.IsWhole) (arg8 : Memref sig .tc .vmem S512x64 .f32) (harg8 : arg8.IsWhole) (arg9 : Memref sig .tc .vmem S576x8192 .bf16) (harg9 : arg9.IsWhole) (arg10 : Memref sig .tc .vmem S512x8192 .bf16) (harg10 : arg10.IsWhole) (hc0 : ¬cond0_0 i)
    (x0 : Vec Ideal S512x8192 .bf16) (x1 : Vec Ideal S576x8192 .fp8e4m3) (x2 : Vec Ideal S5x64 .f32) (x3 : Vec Ideal S512x128 .bf16) (xs0 : Vec Ideal S576x8192 .bf16) :
    View.PiecesOf (codesBlk x0) (kernelRun0_B (F := Ideal) c i arg1 harg1 arg2 harg2 arg3 harg3 arg4 harg4 arg5 harg5 arg6 harg6 arg7 harg7 arg8 harg8 arg9 harg9 arg10 harg10 hc0 x0 x1 x2 x3 xs0).2.2.1 := by
  frame_open
  simp only [View.readAt_eq_ld, Memref.IsWhole.read_unread]
  refine ⟨piece_code x0 8064 (by decide) _, ?_⟩
  refine ⟨piece_code x0 7936 (by decide) _, ?_⟩
  refine ⟨piece_code x0 7808 (by decide) _, ?_⟩
  refine ⟨piece_code x0 7680 (by decide) _, ?_⟩
  refine ⟨piece_code x0 7552 (by decide) _, ?_⟩
  refine ⟨piece_code x0 7424 (by decide) _, ?_⟩
  refine ⟨piece_code x0 7296 (by decide) _, ?_⟩
  refine ⟨piece_code x0 7168 (by decide) _, ?_⟩
  refine ⟨piece_code x0 7040 (by decide) _, ?_⟩
  refine ⟨piece_code x0 6912 (by decide) _, ?_⟩
  refine ⟨piece_code x0 6784 (by decide) _, ?_⟩
  refine ⟨piece_code x0 6656 (by decide) _, ?_⟩
  refine ⟨piece_code x0 6528 (by decide) _, ?_⟩
  refine ⟨piece_code x0 6400 (by decide) _, ?_⟩
  refine ⟨piece_code x0 6272 (by decide) _, ?_⟩
  refine ⟨piece_code x0 6144 (by decide) _, ?_⟩
  refine ⟨piece_code x0 6016 (by decide) _, ?_⟩
  refine ⟨piece_code x0 5888 (by decide) _, ?_⟩
  refine ⟨piece_code x0 5760 (by decide) _, ?_⟩
  refine ⟨piece_code x0 5632 (by decide) _, ?_⟩
  refine ⟨piece_code x0 5504 (by decide) _, ?_⟩
  refine ⟨piece_code x0 5376 (by decide) _, ?_⟩
  refine ⟨piece_code x0 5248 (by decide) _, ?_⟩
  refine ⟨piece_code x0 5120 (by decide) _, ?_⟩
  refine ⟨piece_code x0 4992 (by decide) _, ?_⟩
  refine ⟨piece_code x0 4864 (by decide) _, ?_⟩
  refine ⟨piece_code x0 4736 (by decide) _, ?_⟩
  refine ⟨piece_code x0 4608 (by decide) _, ?_⟩
  refine ⟨piece_code x0 4480 (by decide) _, ?_⟩
  refine ⟨piece_code x0 4352 (by decide) _, ?_⟩
  refine ⟨piece_code x0 4224 (by decide) _, ?_⟩
  refine ⟨piece_code x0 4096 (by decide) _, ?_⟩
  refine ⟨piece_code x0 3968 (by decide) _, ?_⟩
  refine ⟨piece_code x0 3840 (by decide) _, ?_⟩
  refine ⟨piece_code x0 3712 (by decide) _, ?_⟩
  refine ⟨piece_code x0 3584 (by decide) _, ?_⟩
  refine ⟨piece_code x0 3456 (by decide) _, ?_⟩
  refine ⟨piece_code x0 3328 (by decide) _, ?_⟩
  refine ⟨piece_code x0 3200 (by decide) _, ?_⟩
  refine ⟨piece_code x0 3072 (by decide) _, ?_⟩
  refine ⟨piece_code x0 2944 (by decide) _, ?_⟩
  refine ⟨piece_code x0 2816 (by decide) _, ?_⟩
  refine ⟨piece_code x0 2688 (by decide) _, ?_⟩
  refine ⟨piece_code x0 2560 (by decide) _, ?_⟩
  refine ⟨piece_code x0 2432 (by decide) _, ?_⟩
  refine ⟨piece_code x0 2304 (by decide) _, ?_⟩
  refine ⟨piece_code x0 2176 (by decide) _, ?_⟩
  refine ⟨piece_code x0 2048 (by decide) _, ?_⟩
  refine ⟨piece_code x0 1920 (by decide) _, ?_⟩
  refine ⟨piece_code x0 1792 (by decide) _, ?_⟩
  refine ⟨piece_code x0 1664 (by decide) _, ?_⟩
  refine ⟨piece_code x0 1536 (by decide) _, ?_⟩
  refine ⟨piece_code x0 1408 (by decide) _, ?_⟩
  refine ⟨piece_code x0 1280 (by decide) _, ?_⟩
  refine ⟨piece_code x0 1152 (by decide) _, ?_⟩
  refine ⟨piece_code x0 1024 (by decide) _, ?_⟩
  refine ⟨piece_code x0 896 (by decide) _, ?_⟩
  refine ⟨piece_code x0 768 (by decide) _, ?_⟩
  refine ⟨piece_code x0 640 (by decide) _, ?_⟩
  refine ⟨piece_code x0 512 (by decide) _, ?_⟩
  refine ⟨piece_code x0 384 (by decide) _, ?_⟩
  refine ⟨piece_code x0 256 (by decide) _, ?_⟩
  refine ⟨piece_code x0 128 (by decide) _, ?_⟩
  refine ⟨piece_code x0 0 (by decide) _, ?_⟩
  exact trivial

/-- The stores of the scales. -/
theorem scales_pieces_B (c : Dev nD) (i : grid0.Coords) (arg1 : Memref sig .tc .vmem S512x8192 .bf16) (harg1 : arg1.IsWhole) (arg2 : Memref sig .tc .vmem S576x8192 .fp8e4m3) (harg2 : arg2.IsWhole) (arg3 : Memref sig .tc .smem S5x64 .f32) (harg3 : arg3.IsWhole) (arg4 : Memref sig .tc .vmem S512x128 .bf16) (harg4 : arg4.IsWhole) (arg5 : Memref sig .tc .vmem S512x512 .bf16) (harg5 : arg5.IsWhole) (arg6 : Memref sig .tc .vmem S512x64 .bf16) (harg6 : arg6.IsWhole) (arg7 : Memref sig .tc .vmem S512x8192 .fp8e4m3) (harg7 : arg7.IsWhole) (arg8 : Memref sig .tc .vmem S512x64 .f32) (harg8 : arg8.IsWhole) (arg9 : Memref sig .tc .vmem S576x8192 .bf16) (harg9 : arg9.IsWhole) (arg10 : Memref sig .tc .vmem S512x8192 .bf16) (harg10 : arg10.IsWhole) (hc0 : ¬cond0_0 i)
    (x0 : Vec Ideal S512x8192 .bf16) (x1 : Vec Ideal S576x8192 .fp8e4m3) (x2 : Vec Ideal S5x64 .f32) (x3 : Vec Ideal S512x128 .bf16) (xs0 : Vec Ideal S576x8192 .bf16) :
    View.PiecesOf (sclBlk x0) (kernelRun0_B (F := Ideal) c i arg1 harg1 arg2 harg2 arg3 harg3 arg4 harg4 arg5 harg5 arg6 harg6 arg7 harg7 arg8 harg8 arg9 harg9 arg10 harg10 hc0 x0 x1 x2 x3 xs0).2.2.2.1 := by
  frame_open
  simp only [View.readAt_eq_ld, Memref.IsWhole.read_unread]
  refine ⟨piece_scale x0 8064 inb_S512x8192_S512x128_0_8064 63 rfl inb_S512x64_S512x1_0_63, ?_⟩
  refine ⟨piece_scale x0 7936 inb_S512x8192_S512x128_0_7936 62 rfl inb_S512x64_S512x1_0_62, ?_⟩
  refine ⟨piece_scale x0 7808 inb_S512x8192_S512x128_0_7808 61 rfl inb_S512x64_S512x1_0_61, ?_⟩
  refine ⟨piece_scale x0 7680 inb_S512x8192_S512x128_0_7680 60 rfl inb_S512x64_S512x1_0_60, ?_⟩
  refine ⟨piece_scale x0 7552 inb_S512x8192_S512x128_0_7552 59 rfl inb_S512x64_S512x1_0_59, ?_⟩
  refine ⟨piece_scale x0 7424 inb_S512x8192_S512x128_0_7424 58 rfl inb_S512x64_S512x1_0_58, ?_⟩
  refine ⟨piece_scale x0 7296 inb_S512x8192_S512x128_0_7296 57 rfl inb_S512x64_S512x1_0_57, ?_⟩
  refine ⟨piece_scale x0 7168 inb_S512x8192_S512x128_0_7168 56 rfl inb_S512x64_S512x1_0_56, ?_⟩
  refine ⟨piece_scale x0 7040 inb_S512x8192_S512x128_0_7040 55 rfl inb_S512x64_S512x1_0_55, ?_⟩
  refine ⟨piece_scale x0 6912 inb_S512x8192_S512x128_0_6912 54 rfl inb_S512x64_S512x1_0_54, ?_⟩
  refine ⟨piece_scale x0 6784 inb_S512x8192_S512x128_0_6784 53 rfl inb_S512x64_S512x1_0_53, ?_⟩
  refine ⟨piece_scale x0 6656 inb_S512x8192_S512x128_0_6656 52 rfl inb_S512x64_S512x1_0_52, ?_⟩
  refine ⟨piece_scale x0 6528 inb_S512x8192_S512x128_0_6528 51 rfl inb_S512x64_S512x1_0_51, ?_⟩
  refine ⟨piece_scale x0 6400 inb_S512x8192_S512x128_0_6400 50 rfl inb_S512x64_S512x1_0_50, ?_⟩
  refine ⟨piece_scale x0 6272 inb_S512x8192_S512x128_0_6272 49 rfl inb_S512x64_S512x1_0_49, ?_⟩
  refine ⟨piece_scale x0 6144 inb_S512x8192_S512x128_0_6144 48 rfl inb_S512x64_S512x1_0_48, ?_⟩
  refine ⟨piece_scale x0 6016 inb_S512x8192_S512x128_0_6016 47 rfl inb_S512x64_S512x1_0_47, ?_⟩
  refine ⟨piece_scale x0 5888 inb_S512x8192_S512x128_0_5888 46 rfl inb_S512x64_S512x1_0_46, ?_⟩
  refine ⟨piece_scale x0 5760 inb_S512x8192_S512x128_0_5760 45 rfl inb_S512x64_S512x1_0_45, ?_⟩
  refine ⟨piece_scale x0 5632 inb_S512x8192_S512x128_0_5632 44 rfl inb_S512x64_S512x1_0_44, ?_⟩
  refine ⟨piece_scale x0 5504 inb_S512x8192_S512x128_0_5504 43 rfl inb_S512x64_S512x1_0_43, ?_⟩
  refine ⟨piece_scale x0 5376 inb_S512x8192_S512x128_0_5376 42 rfl inb_S512x64_S512x1_0_42, ?_⟩
  refine ⟨piece_scale x0 5248 inb_S512x8192_S512x128_0_5248 41 rfl inb_S512x64_S512x1_0_41, ?_⟩
  refine ⟨piece_scale x0 5120 inb_S512x8192_S512x128_0_5120 40 rfl inb_S512x64_S512x1_0_40, ?_⟩
  refine ⟨piece_scale x0 4992 inb_S512x8192_S512x128_0_4992 39 rfl inb_S512x64_S512x1_0_39, ?_⟩
  refine ⟨piece_scale x0 4864 inb_S512x8192_S512x128_0_4864 38 rfl inb_S512x64_S512x1_0_38, ?_⟩
  refine ⟨piece_scale x0 4736 inb_S512x8192_S512x128_0_4736 37 rfl inb_S512x64_S512x1_0_37, ?_⟩
  refine ⟨piece_scale x0 4608 inb_S512x8192_S512x128_0_4608 36 rfl inb_S512x64_S512x1_0_36, ?_⟩
  refine ⟨piece_scale x0 4480 inb_S512x8192_S512x128_0_4480 35 rfl inb_S512x64_S512x1_0_35, ?_⟩
  refine ⟨piece_scale x0 4352 inb_S512x8192_S512x128_0_4352 34 rfl inb_S512x64_S512x1_0_34, ?_⟩
  refine ⟨piece_scale x0 4224 inb_S512x8192_S512x128_0_4224 33 rfl inb_S512x64_S512x1_0_33, ?_⟩
  refine ⟨piece_scale x0 4096 inb_S512x8192_S512x128_0_4096 32 rfl inb_S512x64_S512x1_0_32, ?_⟩
  refine ⟨piece_scale x0 3968 inb_S512x8192_S512x128_0_3968 31 rfl inb_S512x64_S512x1_0_31, ?_⟩
  refine ⟨piece_scale x0 3840 inb_S512x8192_S512x128_0_3840 30 rfl inb_S512x64_S512x1_0_30, ?_⟩
  refine ⟨piece_scale x0 3712 inb_S512x8192_S512x128_0_3712 29 rfl inb_S512x64_S512x1_0_29, ?_⟩
  refine ⟨piece_scale x0 3584 inb_S512x8192_S512x128_0_3584 28 rfl inb_S512x64_S512x1_0_28, ?_⟩
  refine ⟨piece_scale x0 3456 inb_S512x8192_S512x128_0_3456 27 rfl inb_S512x64_S512x1_0_27, ?_⟩
  refine ⟨piece_scale x0 3328 inb_S512x8192_S512x128_0_3328 26 rfl inb_S512x64_S512x1_0_26, ?_⟩
  refine ⟨piece_scale x0 3200 inb_S512x8192_S512x128_0_3200 25 rfl inb_S512x64_S512x1_0_25, ?_⟩
  refine ⟨piece_scale x0 3072 inb_S512x8192_S512x128_0_3072 24 rfl inb_S512x64_S512x1_0_24, ?_⟩
  refine ⟨piece_scale x0 2944 inb_S512x8192_S512x128_0_2944 23 rfl inb_S512x64_S512x1_0_23, ?_⟩
  refine ⟨piece_scale x0 2816 inb_S512x8192_S512x128_0_2816 22 rfl inb_S512x64_S512x1_0_22, ?_⟩
  refine ⟨piece_scale x0 2688 inb_S512x8192_S512x128_0_2688 21 rfl inb_S512x64_S512x1_0_21, ?_⟩
  refine ⟨piece_scale x0 2560 inb_S512x8192_S512x128_0_2560 20 rfl inb_S512x64_S512x1_0_20, ?_⟩
  refine ⟨piece_scale x0 2432 inb_S512x8192_S512x128_0_2432 19 rfl inb_S512x64_S512x1_0_19, ?_⟩
  refine ⟨piece_scale x0 2304 inb_S512x8192_S512x128_0_2304 18 rfl inb_S512x64_S512x1_0_18, ?_⟩
  refine ⟨piece_scale x0 2176 inb_S512x8192_S512x128_0_2176 17 rfl inb_S512x64_S512x1_0_17, ?_⟩
  refine ⟨piece_scale x0 2048 inb_S512x8192_S512x128_0_2048 16 rfl inb_S512x64_S512x1_0_16, ?_⟩
  refine ⟨piece_scale x0 1920 inb_S512x8192_S512x128_0_1920 15 rfl inb_S512x64_S512x1_0_15, ?_⟩
  refine ⟨piece_scale x0 1792 inb_S512x8192_S512x128_0_1792 14 rfl inb_S512x64_S512x1_0_14, ?_⟩
  refine ⟨piece_scale x0 1664 inb_S512x8192_S512x128_0_1664 13 rfl inb_S512x64_S512x1_0_13, ?_⟩
  refine ⟨piece_scale x0 1536 inb_S512x8192_S512x128_0_1536 12 rfl inb_S512x64_S512x1_0_12, ?_⟩
  refine ⟨piece_scale x0 1408 inb_S512x8192_S512x128_0_1408 11 rfl inb_S512x64_S512x1_0_11, ?_⟩
  refine ⟨piece_scale x0 1280 inb_S512x8192_S512x128_0_1280 10 rfl inb_S512x64_S512x1_0_10, ?_⟩
  refine ⟨piece_scale x0 1152 inb_S512x8192_S512x128_0_1152 9 rfl inb_S512x64_S512x1_0_9, ?_⟩
  refine ⟨piece_scale x0 1024 inb_S512x8192_S512x128_0_1024 8 rfl inb_S512x64_S512x1_0_8, ?_⟩
  refine ⟨piece_scale x0 896 inb_S512x8192_S512x128_0_896 7 rfl inb_S512x64_S512x1_0_7, ?_⟩
  refine ⟨piece_scale x0 768 inb_S512x8192_S512x128_0_768 6 rfl inb_S512x64_S512x1_0_6, ?_⟩
  refine ⟨piece_scale x0 640 inb_S512x8192_S512x128_0_640 5 rfl inb_S512x64_S512x1_0_5, ?_⟩
  refine ⟨piece_scale x0 512 inb_S512x8192_S512x128_0_512 4 rfl inb_S512x64_S512x1_0_4, ?_⟩
  refine ⟨piece_scale x0 384 inb_S512x8192_S512x128_0_384 3 rfl inb_S512x64_S512x1_0_3, ?_⟩
  refine ⟨piece_scale x0 256 inb_S512x8192_S512x128_0_256 2 rfl inb_S512x64_S512x1_0_2, ?_⟩
  refine ⟨piece_scale x0 128 inb_S512x8192_S512x128_0_128 1 rfl inb_S512x64_S512x1_0_1, ?_⟩
  refine ⟨piece_scale x0 0 inb_S512x8192_S512x128_0_0 0 rfl inb_S512x64_S512x1_0_0, ?_⟩
  exact trivial

/-- The stores of the dequantised activations. -/
theorem deq_pieces_B (c : Dev nD) (i : grid0.Coords) (arg1 : Memref sig .tc .vmem S512x8192 .bf16) (harg1 : arg1.IsWhole) (arg2 : Memref sig .tc .vmem S576x8192 .fp8e4m3) (harg2 : arg2.IsWhole) (arg3 : Memref sig .tc .smem S5x64 .f32) (harg3 : arg3.IsWhole) (arg4 : Memref sig .tc .vmem S512x128 .bf16) (harg4 : arg4.IsWhole) (arg5 : Memref sig .tc .vmem S512x512 .bf16) (harg5 : arg5.IsWhole) (arg6 : Memref sig .tc .vmem S512x64 .bf16) (harg6 : arg6.IsWhole) (arg7 : Memref sig .tc .vmem S512x8192 .fp8e4m3) (harg7 : arg7.IsWhole) (arg8 : Memref sig .tc .vmem S512x64 .f32) (harg8 : arg8.IsWhole) (arg9 : Memref sig .tc .vmem S576x8192 .bf16) (harg9 : arg9.IsWhole) (arg10 : Memref sig .tc .vmem S512x8192 .bf16) (harg10 : arg10.IsWhole) (hc0 : ¬cond0_0 i)
    (x0 : Vec Ideal S512x8192 .bf16) (x1 : Vec Ideal S576x8192 .fp8e4m3) (x2 : Vec Ideal S5x64 .f32) (x3 : Vec Ideal S512x128 .bf16) (xs0 : Vec Ideal S576x8192 .bf16) :
    View.PiecesOf (xdBlk x0) (kernelRun0_B (F := Ideal) c i arg1 harg1 arg2 harg2 arg3 harg3 arg4 harg4 arg5 harg5 arg6 harg6 arg7 harg7 arg8 harg8 arg9 harg9 arg10 harg10 hc0 x0 x1 x2 x3 xs0).2.2.2.2.2.1 := by
  frame_open
  simp only [View.readAt_eq_ld, Memref.IsWhole.read_unread]
  refine ⟨piece_deq x0 8064 (by decide) _, ?_⟩
  refine ⟨piece_deq x0 7936 (by decide) _, ?_⟩
  refine ⟨piece_deq x0 7808 (by decide) _, ?_⟩
  refine ⟨piece_deq x0 7680 (by decide) _, ?_⟩
  refine ⟨piece_deq x0 7552 (by decide) _, ?_⟩
  refine ⟨piece_deq x0 7424 (by decide) _, ?_⟩
  refine ⟨piece_deq x0 7296 (by decide) _, ?_⟩
  refine ⟨piece_deq x0 7168 (by decide) _, ?_⟩
  refine ⟨piece_deq x0 7040 (by decide) _, ?_⟩
  refine ⟨piece_deq x0 6912 (by decide) _, ?_⟩
  refine ⟨piece_deq x0 6784 (by decide) _, ?_⟩
  refine ⟨piece_deq x0 6656 (by decide) _, ?_⟩
  refine ⟨piece_deq x0 6528 (by decide) _, ?_⟩
  refine ⟨piece_deq x0 6400 (by decide) _, ?_⟩
  refine ⟨piece_deq x0 6272 (by decide) _, ?_⟩
  refine ⟨piece_deq x0 6144 (by decide) _, ?_⟩
  refine ⟨piece_deq x0 6016 (by decide) _, ?_⟩
  refine ⟨piece_deq x0 5888 (by decide) _, ?_⟩
  refine ⟨piece_deq x0 5760 (by decide) _, ?_⟩
  refine ⟨piece_deq x0 5632 (by decide) _, ?_⟩
  refine ⟨piece_deq x0 5504 (by decide) _, ?_⟩
  refine ⟨piece_deq x0 5376 (by decide) _, ?_⟩
  refine ⟨piece_deq x0 5248 (by decide) _, ?_⟩
  refine ⟨piece_deq x0 5120 (by decide) _, ?_⟩
  refine ⟨piece_deq x0 4992 (by decide) _, ?_⟩
  refine ⟨piece_deq x0 4864 (by decide) _, ?_⟩
  refine ⟨piece_deq x0 4736 (by decide) _, ?_⟩
  refine ⟨piece_deq x0 4608 (by decide) _, ?_⟩
  refine ⟨piece_deq x0 4480 (by decide) _, ?_⟩
  refine ⟨piece_deq x0 4352 (by decide) _, ?_⟩
  refine ⟨piece_deq x0 4224 (by decide) _, ?_⟩
  refine ⟨piece_deq x0 4096 (by decide) _, ?_⟩
  refine ⟨piece_deq x0 3968 (by decide) _, ?_⟩
  refine ⟨piece_deq x0 3840 (by decide) _, ?_⟩
  refine ⟨piece_deq x0 3712 (by decide) _, ?_⟩
  refine ⟨piece_deq x0 3584 (by decide) _, ?_⟩
  refine ⟨piece_deq x0 3456 (by decide) _, ?_⟩
  refine ⟨piece_deq x0 3328 (by decide) _, ?_⟩
  refine ⟨piece_deq x0 3200 (by decide) _, ?_⟩
  refine ⟨piece_deq x0 3072 (by decide) _, ?_⟩
  refine ⟨piece_deq x0 2944 (by decide) _, ?_⟩
  refine ⟨piece_deq x0 2816 (by decide) _, ?_⟩
  refine ⟨piece_deq x0 2688 (by decide) _, ?_⟩
  refine ⟨piece_deq x0 2560 (by decide) _, ?_⟩
  refine ⟨piece_deq x0 2432 (by decide) _, ?_⟩
  refine ⟨piece_deq x0 2304 (by decide) _, ?_⟩
  refine ⟨piece_deq x0 2176 (by decide) _, ?_⟩
  refine ⟨piece_deq x0 2048 (by decide) _, ?_⟩
  refine ⟨piece_deq x0 1920 (by decide) _, ?_⟩
  refine ⟨piece_deq x0 1792 (by decide) _, ?_⟩
  refine ⟨piece_deq x0 1664 (by decide) _, ?_⟩
  refine ⟨piece_deq x0 1536 (by decide) _, ?_⟩
  refine ⟨piece_deq x0 1408 (by decide) _, ?_⟩
  refine ⟨piece_deq x0 1280 (by decide) _, ?_⟩
  refine ⟨piece_deq x0 1152 (by decide) _, ?_⟩
  refine ⟨piece_deq x0 1024 (by decide) _, ?_⟩
  refine ⟨piece_deq x0 896 (by decide) _, ?_⟩
  refine ⟨piece_deq x0 768 (by decide) _, ?_⟩
  refine ⟨piece_deq x0 640 (by decide) _, ?_⟩
  refine ⟨piece_deq x0 512 (by decide) _, ?_⟩
  refine ⟨piece_deq x0 384 (by decide) _, ?_⟩
  refine ⟨piece_deq x0 256 (by decide) _, ?_⟩
  refine ⟨piece_deq x0 128 (by decide) _, ?_⟩
  refine ⟨piece_deq x0 0 (by decide) _, ?_⟩
  exact trivial

/-- The dequantised activations' buffer holds the dequantised block. -/
theorem deq_canon_B (c : Dev nD) (i : grid0.Coords) (arg1 : Memref sig .tc .vmem S512x8192 .bf16) (harg1 : arg1.IsWhole) (arg2 : Memref sig .tc .vmem S576x8192 .fp8e4m3) (harg2 : arg2.IsWhole) (arg3 : Memref sig .tc .smem S5x64 .f32) (harg3 : arg3.IsWhole) (arg4 : Memref sig .tc .vmem S512x128 .bf16) (harg4 : arg4.IsWhole) (arg5 : Memref sig .tc .vmem S512x512 .bf16) (harg5 : arg5.IsWhole) (arg6 : Memref sig .tc .vmem S512x64 .bf16) (harg6 : arg6.IsWhole) (arg7 : Memref sig .tc .vmem S512x8192 .fp8e4m3) (harg7 : arg7.IsWhole) (arg8 : Memref sig .tc .vmem S512x64 .f32) (harg8 : arg8.IsWhole) (arg9 : Memref sig .tc .vmem S576x8192 .bf16) (harg9 : arg9.IsWhole) (arg10 : Memref sig .tc .vmem S512x8192 .bf16) (harg10 : arg10.IsWhole) (hc0 : ¬cond0_0 i)
    (x0 : Vec Ideal S512x8192 .bf16) (x1 : Vec Ideal S576x8192 .fp8e4m3) (x2 : Vec Ideal S5x64 .f32) (x3 : Vec Ideal S512x128 .bf16) (xs0 : Vec Ideal S576x8192 .bf16) :
    View.canon (kernelRun0_B (F := Ideal) c i arg1 harg1 arg2 harg2 arg3 harg3 arg4 harg4 arg5 harg5 arg6 harg6 arg7 harg7 arg8 harg8 arg9 harg9 arg10 harg10 hc0 x0 x1 x2 x3 xs0).2.2.2.2.2.1 = xdBlk x0 := by
  funext y
  exact View.canon_apply_of_pieces _ _ (View.PiecesOf.mem (deq_pieces_B c i arg1 harg1 arg2 harg2 arg3 harg3 arg4 harg4 arg5 harg5 arg6 harg6 arg7 harg7 arg8 harg8 arg9 harg9 arg10 harg10 hc0 x0 x1 x2 x3 xs0)) y
    (View.cover_of_tiledL (kernelRun0_B (F := Ideal) c i arg1 harg1 arg2 harg2 arg3 harg3 arg4 harg4 arg5 harg5 arg6 harg6 arg7 harg7 arg8 harg8 arg9 harg9 arg10 harg10 hc0 x0 x1 x2 x3 xs0).2.2.2.2.2.1 S512x128.size (by sl_kernel_rfl) y)

/-- The codes a point leaves. -/
theorem codes_B (c : Dev nD) (i : grid0.Coords) (arg1 : Memref sig .tc .vmem S512x8192 .bf16) (harg1 : arg1.IsWhole) (arg2 : Memref sig .tc .vmem S576x8192 .fp8e4m3) (harg2 : arg2.IsWhole) (arg3 : Memref sig .tc .smem S5x64 .f32) (harg3 : arg3.IsWhole) (arg4 : Memref sig .tc .vmem S512x128 .bf16) (harg4 : arg4.IsWhole) (arg5 : Memref sig .tc .vmem S512x512 .bf16) (harg5 : arg5.IsWhole) (arg6 : Memref sig .tc .vmem S512x64 .bf16) (harg6 : arg6.IsWhole) (arg7 : Memref sig .tc .vmem S512x8192 .fp8e4m3) (harg7 : arg7.IsWhole) (arg8 : Memref sig .tc .vmem S512x64 .f32) (harg8 : arg8.IsWhole) (arg9 : Memref sig .tc .vmem S576x8192 .bf16) (harg9 : arg9.IsWhole) (arg10 : Memref sig .tc .vmem S512x8192 .bf16) (harg10 : arg10.IsWhole) (hc0 : ¬cond0_0 i)
    (x0 : Vec Ideal S512x8192 .bf16) (x1 : Vec Ideal S576x8192 .fp8e4m3) (x2 : Vec Ideal S5x64 .f32) (x3 : Vec Ideal S512x128 .bf16) (xs0 : Vec Ideal S576x8192 .bf16) :
    out0_B_6 (F := Ideal) c i arg1 harg1 arg2 harg2 arg3 harg3 arg4 harg4 arg5 harg5 arg6 harg6 arg7 harg7 arg8 harg8 arg9 harg9 arg10 harg10 hc0 x0 x1 x2 x3 xs0 = codesBlk x0 := by
  unfold out0_B_6
  rw [View.read_writes_junk_eq_canon]
  funext y
  exact View.canon_apply_of_pieces _ _ (View.PiecesOf.mem (codes_pieces_B c i arg1 harg1 arg2 harg2 arg3 harg3 arg4 harg4 arg5 harg5 arg6 harg6 arg7 harg7 arg8 harg8 arg9 harg9 arg10 harg10 hc0 x0 x1 x2 x3 xs0)) y (cover0_B_6 c i arg1 harg1 arg2 harg2 arg3 harg3 arg4 harg4 arg5 harg5 arg6 harg6 arg7 harg7 arg8 harg8 arg9 harg9 arg10 harg10 hc0 x0 x1 x2 x3 xs0 y)

/-- The scales a point leaves. -/
theorem scales_B (c : Dev nD) (i : grid0.Coords) (arg1 : Memref sig .tc .vmem S512x8192 .bf16) (harg1 : arg1.IsWhole) (arg2 : Memref sig .tc .vmem S576x8192 .fp8e4m3) (harg2 : arg2.IsWhole) (arg3 : Memref sig .tc .smem S5x64 .f32) (harg3 : arg3.IsWhole) (arg4 : Memref sig .tc .vmem S512x128 .bf16) (harg4 : arg4.IsWhole) (arg5 : Memref sig .tc .vmem S512x512 .bf16) (harg5 : arg5.IsWhole) (arg6 : Memref sig .tc .vmem S512x64 .bf16) (harg6 : arg6.IsWhole) (arg7 : Memref sig .tc .vmem S512x8192 .fp8e4m3) (harg7 : arg7.IsWhole) (arg8 : Memref sig .tc .vmem S512x64 .f32) (harg8 : arg8.IsWhole) (arg9 : Memref sig .tc .vmem S576x8192 .bf16) (harg9 : arg9.IsWhole) (arg10 : Memref sig .tc .vmem S512x8192 .bf16) (harg10 : arg10.IsWhole) (hc0 : ¬cond0_0 i)
    (x0 : Vec Ideal S512x8192 .bf16) (x1 : Vec Ideal S576x8192 .fp8e4m3) (x2 : Vec Ideal S5x64 .f32) (x3 : Vec Ideal S512x128 .bf16) (xs0 : Vec Ideal S576x8192 .bf16) :
    out0_B_7 (F := Ideal) c i arg1 harg1 arg2 harg2 arg3 harg3 arg4 harg4 arg5 harg5 arg6 harg6 arg7 harg7 arg8 harg8 arg9 harg9 arg10 harg10 hc0 x0 x1 x2 x3 xs0 = sclBlk x0 := by
  unfold out0_B_7
  rw [View.read_writes_junk_eq_canon]
  funext y
  exact View.canon_apply_of_pieces _ _ (View.PiecesOf.mem (scales_pieces_B c i arg1 harg1 arg2 harg2 arg3 harg3 arg4 harg4 arg5 harg5 arg6 harg6 arg7 harg7 arg8 harg8 arg9 harg9 arg10 harg10 hc0 x0 x1 x2 x3 xs0)) y (cover0_B_7 c i arg1 harg1 arg2 harg2 arg3 harg3 arg4 harg4 arg5 harg5 arg6 harg6 arg7 harg7 arg8 harg8 arg9 harg9 arg10 harg10 hc0 x0 x1 x2 x3 xs0 y)

/-- The store of the latent. -/
theorem latent_pieces_B (c : Dev nD) (i : grid0.Coords) (arg1 : Memref sig .tc .vmem S512x8192 .bf16) (harg1 : arg1.IsWhole) (arg2 : Memref sig .tc .vmem S576x8192 .fp8e4m3) (harg2 : arg2.IsWhole) (arg3 : Memref sig .tc .smem S5x64 .f32) (harg3 : arg3.IsWhole) (arg4 : Memref sig .tc .vmem S512x128 .bf16) (harg4 : arg4.IsWhole) (arg5 : Memref sig .tc .vmem S512x512 .bf16) (harg5 : arg5.IsWhole) (arg6 : Memref sig .tc .vmem S512x64 .bf16) (harg6 : arg6.IsWhole) (arg7 : Memref sig .tc .vmem S512x8192 .fp8e4m3) (harg7 : arg7.IsWhole) (arg8 : Memref sig .tc .vmem S512x64 .f32) (harg8 : arg8.IsWhole) (arg9 : Memref sig .tc .vmem S576x8192 .bf16) (harg9 : arg9.IsWhole) (arg10 : Memref sig .tc .vmem S512x8192 .bf16) (harg10 : arg10.IsWhole) (hc0 : ¬cond0_0 i)
    (x0 : Vec Ideal S512x8192 .bf16) (x1 : Vec Ideal S576x8192 .fp8e4m3) (x2 : Vec Ideal S5x64 .f32) (x3 : Vec Ideal S512x128 .bf16) (xs0 : Vec Ideal S576x8192 .bf16) :
    View.PiecesOf (latBlk xs0 (xdBlk x0) x3) (kernelRun0_B (F := Ideal) c i arg1 harg1 arg2 harg2 arg3 harg3 arg4 harg4 arg5 harg5 arg6 harg6 arg7 harg7 arg8 harg8 arg9 harg9 arg10 harg10 hc0 x0 x1 x2 x3 xs0).1 := by
  have key := deq_canon_B c i arg1 harg1 arg2 harg2 arg3 harg3 arg4 harg4 arg5 harg5 arg6 harg6 arg7 harg7 arg8 harg8 arg9 harg9 arg10 harg10 hc0 x0 x1 x2 x3 xs0
  revert key
  frame_open
  intro key
  rw [readCov_deq _ _ key, readAt_wd harg9 xs0]
  clear key
  simp only [View.readAt_eq_ld, Memref.IsWhole.read_unread]
  exact ⟨fun k => (latent_apply _ _ x3 _ k).trans (congrArg _ (emb_whole 512 512 inb_S512x512_S512x512_0_0 k).symm), trivial⟩

/-- The latent a point leaves. -/
theorem latent_B (c : Dev nD) (i : grid0.Coords) (arg1 : Memref sig .tc .vmem S512x8192 .bf16) (harg1 : arg1.IsWhole) (arg2 : Memref sig .tc .vmem S576x8192 .fp8e4m3) (harg2 : arg2.IsWhole) (arg3 : Memref sig .tc .smem S5x64 .f32) (harg3 : arg3.IsWhole) (arg4 : Memref sig .tc .vmem S512x128 .bf16) (harg4 : arg4.IsWhole) (arg5 : Memref sig .tc .vmem S512x512 .bf16) (harg5 : arg5.IsWhole) (arg6 : Memref sig .tc .vmem S512x64 .bf16) (harg6 : arg6.IsWhole) (arg7 : Memref sig .tc .vmem S512x8192 .fp8e4m3) (harg7 : arg7.IsWhole) (arg8 : Memref sig .tc .vmem S512x64 .f32) (harg8 : arg8.IsWhole) (arg9 : Memref sig .tc .vmem S576x8192 .bf16) (harg9 : arg9.IsWhole) (arg10 : Memref sig .tc .vmem S512x8192 .bf16) (harg10 : arg10.IsWhole) (hc0 : ¬cond0_0 i)
    (x0 : Vec Ideal S512x8192 .bf16) (x1 : Vec Ideal S576x8192 .fp8e4m3) (x2 : Vec Ideal S5x64 .f32) (x3 : Vec Ideal S512x128 .bf16) (xs0 : Vec Ideal S576x8192 .bf16) :
    out0_B_4 (F := Ideal) c i arg1 harg1 arg2 harg2 arg3 harg3 arg4 harg4 arg5 harg5 arg6 harg6 arg7 harg7 arg8 harg8 arg9 harg9 arg10 harg10 hc0 x0 x1 x2 x3 xs0 = latBlk xs0 (xdBlk x0) x3 := by
  unfold out0_B_4
  rw [View.read_writes_junk_eq_canon]
  funext y
  exact View.canon_apply_of_pieces _ _ (View.PiecesOf.mem (latent_pieces_B c i arg1 harg1 arg2 harg2 arg3 harg3 arg4 harg4 arg5 harg5 arg6 harg6 arg7 harg7 arg8 harg8 arg9 harg9 arg10 harg10 hc0 x0 x1 x2 x3 xs0)) y (cover0_B_4 c i arg1 harg1 arg2 harg2 arg3 harg3 arg4 harg4 arg5 harg5 arg6 harg6 arg7 harg7 arg8 harg8 arg9 harg9 arg10 harg10 hc0 x0 x1 x2 x3 xs0 y)
/-- The store of the rope. -/
theorem rope_pieces_B (c : Dev nD) (i : grid0.Coords) (arg1 : Memref sig .tc .vmem S512x8192 .bf16) (harg1 : arg1.IsWhole) (arg2 : Memref sig .tc .vmem S576x8192 .fp8e4m3) (harg2 : arg2.IsWhole) (arg3 : Memref sig .tc .smem S5x64 .f32) (harg3 : arg3.IsWhole) (arg4 : Memref sig .tc .vmem S512x128 .bf16) (harg4 : arg4.IsWhole) (arg5 : Memref sig .tc .vmem S512x512 .bf16) (harg5 : arg5.IsWhole) (arg6 : Memref sig .tc .vmem S512x64 .bf16) (harg6 : arg6.IsWhole) (arg7 : Memref sig .tc .vmem S512x8192 .fp8e4m3) (harg7 : arg7.IsWhole) (arg8 : Memref sig .tc .vmem S512x64 .f32) (harg8 : arg8.IsWhole) (arg9 : Memref sig .tc .vmem S576x8192 .bf16) (harg9 : arg9.IsWhole) (arg10 : Memref sig .tc .vmem S512x8192 .bf16) (harg10 : arg10.IsWhole) (hc0 : ¬cond0_0 i)
    (x0 : Vec Ideal S512x8192 .bf16) (x1 : Vec Ideal S576x8192 .fp8e4m3) (x2 : Vec Ideal S5x64 .f32) (x3 : Vec Ideal S512x128 .bf16) (xs0 : Vec Ideal S576x8192 .bf16) :
    View.PiecesOf (ropeBlk xs0 (xdBlk x0)) (kernelRun0_B (F := Ideal) c i arg1 harg1 arg2 harg2 arg3 harg3 arg4 harg4 arg5 harg5 arg6 harg6 arg7 harg7 arg8 harg8 arg9 harg9 arg10 harg10 hc0 x0 x1 x2 x3 xs0).2.1 := by
  have key := deq_canon_B c i arg1 harg1 arg2 harg2 arg3 harg3 arg4 harg4 arg5 harg5 arg6 harg6 arg7 harg7 arg8 harg8 arg9 harg9 arg10 harg10 hc0 x0 x1 x2 x3 xs0
  revert key
  frame_open
  intro key
  rw [readCov_deq _ _ key, readAt_wd harg9 xs0]
  clear key

  exact ⟨fun k => (rope_apply _ _ k).trans (congrArg _ (emb_whole 512 64 inb_S512x64_S512x64_0_0 k).symm), trivial⟩

/-- The rope a point leaves. -/
theorem rope_B (c : Dev nD) (i : grid0.Coords) (arg1 : Memref sig .tc .vmem S512x8192 .bf16) (harg1 : arg1.IsWhole) (arg2 : Memref sig .tc .vmem S576x8192 .fp8e4m3) (harg2 : arg2.IsWhole) (arg3 : Memref sig .tc .smem S5x64 .f32) (harg3 : arg3.IsWhole) (arg4 : Memref sig .tc .vmem S512x128 .bf16) (harg4 : arg4.IsWhole) (arg5 : Memref sig .tc .vmem S512x512 .bf16) (harg5 : arg5.IsWhole) (arg6 : Memref sig .tc .vmem S512x64 .bf16) (harg6 : arg6.IsWhole) (arg7 : Memref sig .tc .vmem S512x8192 .fp8e4m3) (harg7 : arg7.IsWhole) (arg8 : Memref sig .tc .vmem S512x64 .f32) (harg8 : arg8.IsWhole) (arg9 : Memref sig .tc .vmem S576x8192 .bf16) (harg9 : arg9.IsWhole) (arg10 : Memref sig .tc .vmem S512x8192 .bf16) (harg10 : arg10.IsWhole) (hc0 : ¬cond0_0 i)
    (x0 : Vec Ideal S512x8192 .bf16) (x1 : Vec Ideal S576x8192 .fp8e4m3) (x2 : Vec Ideal S5x64 .f32) (x3 : Vec Ideal S512x128 .bf16) (xs0 : Vec Ideal S576x8192 .bf16) :
    out0_B_5 (F := Ideal) c i arg1 harg1 arg2 harg2 arg3 harg3 arg4 harg4 arg5 harg5 arg6 harg6 arg7 harg7 arg8 harg8 arg9 harg9 arg10 harg10 hc0 x0 x1 x2 x3 xs0 = ropeBlk xs0 (xdBlk x0) := by
  unfold out0_B_5
  rw [View.read_writes_junk_eq_canon]
  funext y
  exact View.canon_apply_of_pieces _ _ (View.PiecesOf.mem (rope_pieces_B c i arg1 harg1 arg2 harg2 arg3 harg3 arg4 harg4 arg5 harg5 arg6 harg6 arg7 harg7 arg8 harg8 arg9 harg9 arg10 harg10 hc0 x0 x1 x2 x3 xs0)) y (cover0_B_5 c i arg1 harg1 arg2 harg2 arg3 harg3 arg4 harg4 arg5 harg5 arg6 harg6 arg7 harg7 arg8 harg8 arg9 harg9 arg10 harg10 hc0 x0 x1 x2 x3 xs0 y)
end Cert.Proof

end
-- ==== Proof.KernelArrays.lean ====
/-
  What the kernel's four result arrays end holding, read at an index as the functions of Spec: the input blocks as the
  arguments' rows, the scaled weight carried from the first grid point to the last, and each point's block of a result.
-/
module

public import proofs.«01_k».proof.Proof.OutA
public import proofs.«01_k».proof.Proof.OutB
public import proofs.«01_k».proof.Proof.Gen.KernelIdeal.Value

@[expose] public section

set_option maxRecDepth 16384

noncomputable section

open scoped BigOperators

namespace Cert.Proof

open Idealize.ShloMosaic hiding ix1 ix2 ix3 ix4 eq_ix1 eq_ix2 eq_ix3 eq_ix4
open Idealize.ShloMosaic.ValueIdx
open Idealize.ShloMosaic.TcCoe Idealize.ShloMosaic.Tactic
open Idealize.SL Idealize.SL.Sem
open Cert.KernelIdeal Cert.KernelIdeal.Gen

/-- Row `n` of the activations, the leading two axes flattened. -/
def xrow (x : Vec Ideal S4x2048x8192 .bf16) (n : Fin 8192) (j : Fin 8192) : EReal :=
  shapeCast S8192x8192 x shapeCasts_S4x2048x8192_S8192x8192 (ix2 n j)

/-- The weight's codes by row and column. -/
def wmat (w : Vec Ideal S576x8192 .fp8e4m3) (o : Fin 576) (j : Fin 8192) : EReal := w (ix2 o j)

/-- The weight's scales by tile. -/
def smat (s : Vec Ideal S5x64 .f32) (a : Fin 5) (b : Fin 64) : EReal := s (ix2 a b)

/-- The normalisation's weights. -/
def gvec (g : Vec Ideal S512 .bf16) (o : Fin 512) : EReal := g (ix1 o)

variable (m : (ℓ : Loc nD τ sig) → Buf (Elt Ideal) ℓ)

theorem V_v2 (c : Dev nD) : V m c main_v2 = shapeCast S8192x8192 (m ((c : Thread nD τ).loc main_arg0)) shapeCasts_S4x2048x8192_S8192x8192 := by
  entry_read
  rfl

theorem V_v1 (c : Dev nD) : V m c main_v1 = broadcastInDim S512x128 ![0, 1] bcast_S512x1_S512x128_0_1
    (broadcastInDim S512x1 ![0] bcast_S512_S512x1_0 (m ((c : Thread nD τ).loc main_arg3))) := by
  entry_read
  rfl

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- The activations' block at a point: 512 rows. -/
theorem iblk0_apply (c : Dev nD) (t : Fin cfg0.N) (p : Fin 512) (j : Fin 8192) (n : Fin 8192) (hn : n.val = 512 * t.val + p.val) :
    iblk m c 0 t (ix2 p j : S512x8192.Idx) = xrow (m ((c : Thread nD τ).loc main_arg0)) n j := by
  have e := idx0 t
  show V m c main_v2 (((cfg0.win 0).blk t).view.emb (ix2 p j : S512x8192.Idx)) = _
  rw [V_v2]
  unfold xrow
  refine congrArg _ ?_
  funext a
  match a with
  | ⟨0, _⟩ => refine Fin.ext ?_; show win0_0.index t (0 : Fin 2) * 512 + 1 * p.val = n.val; omega
  | ⟨1, _⟩ => refine Fin.ext ?_; show win0_0.index t (1 : Fin 2) * 8192 + 1 * j.val = j.val; omega

/-- The weight's block is the whole array at every point. -/
theorem iblk1_eq (c : Dev nD) (t : Fin cfg0.N) : (iblk m c 1 t : Vec Ideal S576x8192 .fp8e4m3) = m ((c : Thread nD τ).loc main_arg1) := by
  have e := idx1 t
  funext y
  show V m c main_arg1 (((cfg0.win 1).blk t).view.emb y) = _
  rw [V_main_arg1]
  refine congrArg _ ?_
  funext a
  match a with
  | ⟨0, _⟩ => refine Fin.ext ?_; show win0_1.index t (0 : Fin 2) * 576 + 1 * (y 0).val = (y 0).val; omega
  | ⟨1, _⟩ => refine Fin.ext ?_; show win0_1.index t (1 : Fin 2) * 8192 + 1 * (y 1).val = (y 1).val; omega

/-- The weight's scales are the whole array at every point. -/
theorem iblk2_eq (c : Dev nD) (t : Fin cfg0.N) : (iblk m c 2 t : Vec Ideal S5x64 .f32) = m ((c : Thread nD τ).loc main_arg2) := by
  have e := idx2 t
  funext y
  show V m c main_arg2 (((cfg0.win 2).blk t).view.emb y) = _
  rw [V_main_arg2]
  refine congrArg _ ?_
  funext a
  match a with
  | ⟨0, _⟩ => refine Fin.ext ?_; show win0_2.index t (0 : Fin 2) * 5 + 1 * (y 0).val = (y 0).val; omega
  | ⟨1, _⟩ => refine Fin.ext ?_; show win0_2.index t (1 : Fin 2) * 64 + 1 * (y 1).val = (y 1).val; omega

/-- The normalisation's weights, copied along 128 columns on the host. -/
theorem iblk3_apply (c : Dev nD) (t : Fin cfg0.N) (o : Fin 512) :
    iblk m c 3 t (ix2 o 0 : S512x128.Idx) = gvec (m ((c : Thread nD τ).loc main_arg3)) o := by
  have e := idx3 t
  show V m c main_v1 (((cfg0.win 3).blk t).view.emb (ix2 o 0 : S512x128.Idx)) = _
  have he : ((cfg0.win 3).blk t).view.emb (ix2 o 0 : S512x128.Idx) = (ix2 o 0 : S512x128.Idx) := by
    funext a
    match a with
    | ⟨0, _⟩ => refine Fin.ext ?_; show win0_3.index t (0 : Fin 2) * 512 + 1 * o.val = o.val; omega
    | ⟨1, _⟩ => refine Fin.ext ?_; show win0_3.index t (1 : Fin 2) * 128 + 1 * 0 = 0; omega
  rw [he, V_v1]
  unfold gvec
  refine (broadcastInDim_apply _ _ _ (ix2 o 0) (ix2 o (0 : Fin 1)) (fun a => by match a with | ⟨0, _⟩ => rfl | ⟨1, _⟩ => rfl)).trans ?_
  exact broadcastInDim_apply _ _ _ (ix2 o (0 : Fin 1)) (ix1 o) (fun a => by match a with | ⟨0, _⟩ => rfl)

/-- The scaled weight the scratch carries. -/
abbrev WD (c : Dev nD) : Vec Ideal S576x8192 .bf16 := wdBlk (m ((c : Thread nD τ).loc main_arg1)) (m ((c : Thread nD τ).loc main_arg2))

/-- What a point leaves: the four blocks of its rows and the scaled weight. -/
def left (c : Dev nD) (t : Fin cfg0.N) : Vec Ideal S512x512 .bf16 × Vec Ideal S512x64 .bf16 × Vec Ideal S512x8192 .fp8e4m3 × Vec Ideal S512x64 .f32 × Vec Ideal S576x8192 .bf16 :=
  (latBlk (WD m c) (xdBlk (iblk m c 0 t)) (iblk m c 3 t), ropeBlk (WD m c) (xdBlk (iblk m c 0 t)), codesBlk (iblk m c 0 t), sclBlk (iblk m c 0 t), WD m c)

theorem left_A (c : Dev nD) (t : Fin cfg0.N) (h0 : t.val % 16 = 0) : outsAt0 m c t.val t.isLt = left m c t := by
  rw [outsAt0_A m c t h0, latent_A, rope_A, codes_A, scales_A, sout_A]
  unfold left WD
  rw [iblk1_eq, iblk2_eq]

theorem left_B (c : Dev nD) (t : Fin cfg0.N) (h0 : ¬t.val % 16 = 0)
    (ih : (outsAt0 m c (t.val - 1) (Nat.lt_of_le_of_lt (Nat.sub_le _ _) t.isLt)).2.2.2.2 = WD m c) : outsAt0 m c t.val t.isLt = left m c t := by
  rw [outsAt0_B m c t h0, ih, latent_B, rope_B, codes_B, scales_B]
  unfold left sout0_B_0
  rfl

/-- Every point leaves its blocks. -/
theorem outs_left (c : Dev nD) : ∀ (n : ℕ) (hn : n < cfg0.N), outsAt0 m c n hn = left m c ⟨n, hn⟩
  | 0, hn => left_A m c ⟨0, hn⟩ rfl
  | n + 1, hn => by
    have hN := lt_of_lt_of_eq hn (show cfg0.N = 16 from N_0)
    refine left_B m c ⟨n + 1, hn⟩ (by show ¬(n + 1) % 16 = 0; omega) ?_
    show (outsAt0 m c n _).2.2.2.2 = _
    rw [outs_left c n (by omega)]
    rfl

/-- A row of a point's block is a row of the activations. -/
theorem brow_iblk (c : Dev nD) (t : Fin cfg0.N) (p : Fin 512) (n : Fin 8192) (hn : n.val = 512 * t.val + p.val) :
    brow (iblk m c 0 t) p = xrow (m ((c : Thread nD τ).loc main_arg0)) n :=
  funext fun j => iblk0_apply m c t p j n hn

/-- A row of a point's dequantised block projected through the scaled weight. -/
theorem bproj_iblk (c : Dev nD) (t : Fin cfg0.N) (p : Fin 512) (n : Fin 8192) (hn : n.val = 512 * t.val + p.val) :
    bproj (WD m c) (xdBlk (iblk m c 0 t)) p = proj kScale kInv (xrow (m ((c : Thread nD τ).loc main_arg0)) n)
      (wmat (m ((c : Thread nD τ).loc main_arg1))) (smat (m ((c : Thread nD τ).loc main_arg2))) := by
  funext o
  show (∑ j : Fin 8192, xdeq kScale kInv (brow (iblk m c 0 t) p) j * _) = _
  rw [brow_iblk m c t p n hn]
  rfl

/-- The kernel's first result: the normalised latent of the projected row. -/
theorem kernel_latent (c : Dev nD) (i : S8192x512.Idx) :
    Cert.KernelIdeal.Value.G4 m c i = latent (proj kScale kInv (xrow (m ((c : Thread nD τ).loc main_arg0)) (i 0))
      (wmat (m ((c : Thread nD τ).loc main_arg1))) (smat (m ((c : Thread nD τ).loc main_arg2)))) (gvec (m ((c : Thread nD τ).loc main_arg3))) (i 1) := by
  have h0 : (i 0).val < 8192 := (i 0).isLt
  have h1 : (i 1).val < 512 := (i 1).isLt
  have hp : Cert.KernelIdeal.Value.pt4Of i = (i 0).val / 512 := by
    show 1 * ((i 0).val / 512 - 0) + 1 * ((i 1).val / 512 - 0) = _; omega
  have hlt : Cert.KernelIdeal.Value.pt4Of i < cfg0.N := by rw [hp]; exact lt_of_lt_of_eq (by omega : (i 0).val / 512 < 16) (show cfg0.N = 16 from N_0).symm
  unfold Cert.KernelIdeal.Value.G4
  rw [dif_pos hlt, ← Cert.KernelIdeal.Value.outsAt0_sweep m c _ hlt, outs_left]
  show latent (bproj (WD m c) (xdBlk (iblk m c 0 ⟨_, hlt⟩)) ⟨(i 0).val % 512, _⟩) (fun o => iblk m c 3 ⟨_, hlt⟩ (ix2 o 0)) ⟨(i 1).val % 512, _⟩ = _
  rw [bproj_iblk m c _ _ (i 0) (by show (i 0).val = 512 * Cert.KernelIdeal.Value.pt4Of i + (i 0).val % 512; rw [hp]; omega)]
  rw [show (fun o => iblk m c 3 ⟨_, hlt⟩ (ix2 o 0)) = gvec (m ((c : Thread nD τ).loc main_arg3)) from funext fun o => iblk3_apply m c _ o]
  exact congrArg _ (Fin.ext (Nat.mod_eq_of_lt h1))

/-- The kernel's second result: the projected row's last 64 columns. -/
theorem kernel_rope (c : Dev nD) (i : S8192x64.Idx) :
    Cert.KernelIdeal.Value.G5 m c i = rope (proj kScale kInv (xrow (m ((c : Thread nD τ).loc main_arg0)) (i 0))
      (wmat (m ((c : Thread nD τ).loc main_arg1))) (smat (m ((c : Thread nD τ).loc main_arg2)))) (i 1) := by
  have h0 : (i 0).val < 8192 := (i 0).isLt
  have h1 : (i 1).val < 64 := (i 1).isLt
  have hp : Cert.KernelIdeal.Value.pt5Of i = (i 0).val / 512 := by
    show 1 * ((i 0).val / 512 - 0) + 1 * ((i 1).val / 64 - 0) = _; omega
  have hlt : Cert.KernelIdeal.Value.pt5Of i < cfg0.N := by rw [hp]; exact lt_of_lt_of_eq (by omega : (i 0).val / 512 < 16) (show cfg0.N = 16 from N_0).symm
  unfold Cert.KernelIdeal.Value.G5
  rw [dif_pos hlt, ← Cert.KernelIdeal.Value.outsAt0_sweep m c _ hlt, outs_left]
  show rope (bproj (WD m c) (xdBlk (iblk m c 0 ⟨_, hlt⟩)) ⟨(i 0).val % 512, _⟩) ⟨(i 1).val % 64, _⟩ = _
  rw [bproj_iblk m c _ _ (i 0) (by show (i 0).val = 512 * Cert.KernelIdeal.Value.pt5Of i + (i 0).val % 512; rw [hp]; omega)]
  exact congrArg _ (Fin.ext (Nat.mod_eq_of_lt h1))

/-- The kernel's third result: the codes of the row. -/
theorem kernel_codes (c : Dev nD) (i : S8192x8192.Idx) :
    Cert.KernelIdeal.Value.G6 m c i = code kInv (xrow (m ((c : Thread nD τ).loc main_arg0)) (i 0)) (i 1) := by
  have h0 : (i 0).val < 8192 := (i 0).isLt
  have h1 : (i 1).val < 8192 := (i 1).isLt
  have hp : Cert.KernelIdeal.Value.pt6Of i = (i 0).val / 512 := by
    show 1 * ((i 0).val / 512 - 0) + 1 * ((i 1).val / 8192 - 0) = _; omega
  have hlt : Cert.KernelIdeal.Value.pt6Of i < cfg0.N := by rw [hp]; exact lt_of_lt_of_eq (by omega : (i 0).val / 512 < 16) (show cfg0.N = 16 from N_0).symm
  unfold Cert.KernelIdeal.Value.G6
  rw [dif_pos hlt, ← Cert.KernelIdeal.Value.outsAt0_sweep m c _ hlt, outs_left]
  show code kInv (brow (iblk m c 0 ⟨_, hlt⟩) ⟨(i 0).val % 512, _⟩) ⟨(i 1).val % 8192, _⟩ = _
  rw [brow_iblk m c _ _ (i 0) (by show (i 0).val = 512 * Cert.KernelIdeal.Value.pt6Of i + (i 0).val % 512; rw [hp]; omega)]
  exact congrArg _ (Fin.ext (Nat.mod_eq_of_lt h1))

/-- The kernel's fourth result: the scales of the row. -/
theorem kernel_scales (c : Dev nD) (i : S8192x64.Idx) :
    Cert.KernelIdeal.Value.G7 m c i = gscale kScale (xrow (m ((c : Thread nD τ).loc main_arg0)) (i 0)) (i 1) := by
  have h0 : (i 0).val < 8192 := (i 0).isLt
  have h1 : (i 1).val < 64 := (i 1).isLt
  have hp : Cert.KernelIdeal.Value.pt7Of i = (i 0).val / 512 := by
    show 1 * ((i 0).val / 512 - 0) + 1 * ((i 1).val / 64 - 0) = _; omega
  have hlt : Cert.KernelIdeal.Value.pt7Of i < cfg0.N := by rw [hp]; exact lt_of_lt_of_eq (by omega : (i 0).val / 512 < 16) (show cfg0.N = 16 from N_0).symm
  unfold Cert.KernelIdeal.Value.G7
  rw [dif_pos hlt, ← Cert.KernelIdeal.Value.outsAt0_sweep m c _ hlt, outs_left]
  show gscale kScale (brow (iblk m c 0 ⟨_, hlt⟩) ⟨(i 0).val % 512, _⟩) ⟨(i 1).val % 64, _⟩ = _
  rw [brow_iblk m c _ _ (i 0) (by show (i 0).val = 512 * Cert.KernelIdeal.Value.pt7Of i + (i 0).val % 512; rw [hp]; omega)]
  exact congrArg _ (Fin.ext (Nat.mod_eq_of_lt h1))

end Cert.Proof

end
-- ==== Proof.RefBody.lean ====
/-
  The reference's payloads read at an index: each is the function of Spec it is meant to be.
-/
module

public import proofs.«01_k».proof.Proof.Spec
public import proofs.«01_k».proof.Proof.Gen.ReferenceIdeal.Frame
public import Idealize.ShloMosaic.Lib.MatmulPlain
public import Idealize.ShloMosaic.Lib.ValueLayout
public import Idealize.ShloMosaic.Lib.ValueLayoutCasts
public import Idealize.ShloMosaic.Lib.Pipeline.ReadBack
public import Idealize.ShloMosaic.Lib.Pipeline.ValueKit

@[expose] public section

set_option maxRecDepth 16384

noncomputable section

open scoped BigOperators

namespace Cert.RefProof

open Idealize.ShloMosaic hiding ix1 ix2 ix3 ix4 eq_ix1 eq_ix2 eq_ix3 eq_ix4
open Idealize.ShloMosaic.ValueIdx
open Cert.Proof
open Cert.ReferenceIdeal Cert.ReferenceIdeal.Gen

/-- A row of the flattened activations. -/
def rrow (x : Vec Ideal S8192x8192 .bf16) (n : Fin 8192) (j : Fin 8192) : EReal := x (ix2 n j)

theorem neg_inf_f32 : Ideal.ofBits .f32 0xFF800000#32 = ⊥ := by simp [Ideal.ofBits, Ideal.ieee]
theorem hi448 : Ideal.ofBits .f32 0x43E00000#32 = Ideal.ofBits .bf16 0x43E0#16 := by
  have h : Ideal.ofBits .bf16 0x43E0#16 = ((448 : ℝ) : EReal) := by
    simp [Ideal.ofBits, Ideal.ieee, -EReal.coe_mul]; norm_num
  rw [c448, h]
theorem lo448 : Ideal.ofBits .f32 0xC3E00000#32 = Ideal.ofBits .bf16 0xC3E0#16 := by
  have h : Ideal.ofBits .f32 0xC3E00000#32 = ((-448 : ℝ) : EReal) := by
    simp [Ideal.ofBits, Ideal.ieee, -EReal.coe_mul, -EReal.coe_neg]; norm_num
  have h' : Ideal.ofBits .bf16 0xC3E0#16 = ((-448 : ℝ) : EReal) := by
    simp [Ideal.ofBits, Ideal.ieee, -EReal.coe_mul, -EReal.coe_neg]; norm_num
  rw [h, h']

/-- The activations in groups of 128 columns. -/
theorem groups_apply (x : Vec Ideal S8192x8192 .bf16) (n : Fin 8192) (g : Fin 64) (k : Fin 128) (j : Fin 8192) (hj : j.val = 128 * g.val + k.val) :
    k0_pay4 (F := Ideal) x (ix3 n g k) = rrow x n j := by
  unfold k0_pay4
  simp only [shapeCast_self]
  refine (shapeCast_apply (s := S8192x8192) (t := S8192x64x128) _ shapeCasts_S8192x8192_S8192x64x128 (ix3 n g k) (ix2 n j) ?_).trans rfl
  rw [Shape.rowMajor_val_two, Shape.rowMajor_val_three]
  show n.val * 8192 + j.val = (n.val * 64 + g.val) * 128 + k.val
  omega

theorem lift_group (h : S8192x64x128.Reduces [2] S8192x64) (n : Fin 8192) (g : Fin 64) (k : Fin 128) : h.lift (ix2 n g) k = ix3 n g k := by
  funext a; match a with | ⟨0, _⟩ => rfl | ⟨1, _⟩ => rfl | ⟨2, _⟩ => rfl

/-- The largest magnitude of a group. -/
theorem largest_apply (x : Vec Ideal S8192x8192 .bf16) (n : Fin 8192) (g : Fin 64) :
    (multiReduction .maximumf [2] S8192x64 (absf (k0_pay4 (F := Ideal) x)) 0xFF800000#32 reduces_S8192x64x128_S8192x64 (.inl rfl) rfl : FVec Ideal S8192x64 .f32) (ix2 n g)
      = gmax (rrow x n) (gfirst g) := by
  refine (Ideal.multiReduction_maximumf_single _ _ reduces_S8192x64x128_S8192x64 _ _ _).trans ?_
  unfold gmax tmax
  refine (congrArg (fun b => Finset.fold max b _ Finset.univ) neg_inf_f32).trans ?_
  refine congrArg (Finset.fold max ⊥ · Finset.univ) ?_
  funext k
  refine (congrArg (absf (k0_pay4 (F := Ideal) x)) (lift_group _ n g k)).trans ?_
  change Fin 128 at k
  have e : k0_pay4 (F := Ideal) x (ix3 n g k) = rrow x n (gcol (gfirst g) k) :=
    groups_apply x n g k _ (by show 128 * (128 * g.val / 128) + k.val = _; omega)
  show max (k0_pay4 (F := Ideal) x (ix3 n g k)) (-(k0_pay4 (F := Ideal) x (ix3 n g k))) = _
  rw [e]

/-- The exponent of a group. -/
theorem exponent_apply (x : Vec Ideal S8192x8192 .bf16) (n : Fin 8192) (g : Fin 64) :
    k0_pay5 (F := Ideal) x (ix2 n g) = rExp (gmax (rrow x n) (gfirst g)) := by
  rw [← largest_apply]; rfl

/-- The scale of a group. -/
theorem scales_apply (x : Vec Ideal S8192x8192 .bf16) (n : Fin 8192) (g : Fin 64) :
    k0_pay6 (F := Ideal) x (ix2 n g) = gscale rScale (rrow x n) g := by
  show Ideal.exp2 (k0_pay5 (F := Ideal) x (ix2 n g)) = _
  rw [exponent_apply]; rfl

/-- A value per group, repeated over the group's columns. -/
theorem repeat_apply (v : FVec Ideal S8192x64 .f32) (n : Fin 8192) (g : Fin 64) (k : Fin 128) :
    (broadcastTo S8192x64x128 (shapeCast S8192x64x1 v shapeCasts_S8192x64_S8192x64x1) broadcasts_S8192x64x1_S8192x64x128) (ix3 n g k) = v (ix2 n g) := by
  refine (broadcastTo_apply (s := S8192x64x1) (t := S8192x64x128) _ broadcasts_S8192x64x1_S8192x64x128 (ix3 n g k) (ix3 n g (0 : Fin 1)) (fun a => by match a with | ⟨0, _⟩ => rfl | ⟨1, _⟩ => rfl | ⟨2, _⟩ => rfl)).trans ?_
  refine shapeCast_apply (s := S8192x64) (t := S8192x64x1) _ shapeCasts_S8192x64_S8192x64x1 (ix3 n g (0 : Fin 1)) (ix2 n g) ?_
  rw [Shape.rowMajor_val_two, Shape.rowMajor_val_three]
  show n.val * 64 + g.val = (n.val * 64 + g.val) * 1 + 0
  omega

/-- A column's group and its place in the group. -/
def grp (j : Fin 8192) : Fin 64 := ⟨j.val / 128, by omega⟩
def plc (j : Fin 8192) : Fin 128 := ⟨j.val % 128, by omega⟩

/-- An array in groups, flattened. -/
theorem flatten_apply {φ : FTy} (v : FVec Ideal S8192x64x128 φ) (n j : Fin 8192) :
    shapeCast S8192x8192 v shapeCasts_S8192x64x128_S8192x8192 (ix2 n j) = v (ix3 n (grp j) (plc j)) := by
  refine shapeCast_apply (s := S8192x64x128) (t := S8192x8192) _ shapeCasts_S8192x64x128_S8192x8192 (ix2 n j) (ix3 n (grp j) (plc j)) ?_
  rw [Shape.rowMajor_val_two, Shape.rowMajor_val_three]
  show (n.val * 64 + j.val / 128) * 128 + j.val % 128 = n.val * 8192 + j.val
  omega

theorem gmax_grp (r : Fin 8192 → EReal) (j : Fin 8192) : gmax r (gfirst (grp j)) = gmax r j := by
  unfold gmax
  refine congrArg tmax (funext fun k => congrArg r (Fin.ext ?_))
  show 128 * (128 * (j.val / 128) / 128) + k.val = 128 * (j.val / 128) + k.val
  omega

/-- The codes. -/
theorem codes_apply (x : Vec Ideal S8192x8192 .bf16) (n j : Fin 8192) :
    k0_pay7 (F := Ideal) x (ix2 n j) = code rInv (rrow x n) j := by
  unfold k0_pay7
  refine (flatten_apply _ n j).trans ?_
  show min (Ideal.ofBits .f32 0x43E00000#32) (max (Ideal.ofBits .f32 0xC3E00000#32) (k0_pay4 (F := Ideal) x (ix3 n (grp j) (plc j)) *
    (broadcastTo S8192x64x128 (shapeCast S8192x64x1 (exp2 (subf (broadcast S8192x64 (Scalar.ofBits (F := Ideal) .f32 0x00000000#32)) (k0_pay5 x))) shapeCasts_S8192x64_S8192x64x1) broadcasts_S8192x64x1_S8192x64x128) (ix3 n (grp j) (plc j)))) = _
  rw [repeat_apply, groups_apply x n (grp j) (plc j) j (by show j.val = 128 * (j.val / 128) + j.val % 128; omega), hi448, lo448]
  show min _ (max _ (_ * Ideal.exp2 (Ideal.ofBits .f32 0x00000000#32 - k0_pay5 (F := Ideal) x (ix2 n (grp j))))) = _
  rw [exponent_apply, gmax_grp, Ideal.ofBits_zero_f32]
  rfl

/-- The dequantised activations. -/
theorem deq_apply (x : Vec Ideal S8192x8192 .bf16) (n j : Fin 8192) :
    k0_pay8 (F := Ideal) x (ix2 n j) = xdeq rScale rInv (rrow x n) j := by
  show k0_pay7 (F := Ideal) x (ix2 n j) * shapeCast S8192x8192 (broadcastTo S8192x64x128 (shapeCast S8192x64x1 (k0_pay6 (F := Ideal) x) shapeCasts_S8192x64_S8192x64x1) broadcasts_S8192x64x1_S8192x64x128) shapeCasts_S8192x64x128_S8192x8192 (ix2 n j) = _
  rw [flatten_apply, repeat_apply, codes_apply, scales_apply]
  unfold gscale xdeq
  rw [gmax_grp]

/-- The weight's scales, repeated over their tiles. -/
theorem wscale_apply (s : Vec Ideal S5x64 .f32) (o : Fin 576) (j : Fin 8192) :
    k0_pay9 (F := Ideal) s (ix2 o j) = s (ix2 (⟨o.val / 128, by omega⟩ : Fin 5) (⟨j.val / 128, by omega⟩ : Fin 64)) := by
  have ho := o.isLt
  have hj := j.isLt
  unfold k0_pay9
  refine (extractStridedSlice_apply (s := S640x8192) (t := S576x8192) ![0, 0] _ slices_S640x8192_o0_0_S576x8192 (ix2 o j) (ix2 (⟨o.val, by omega⟩ : Fin 640) j) (fun a => by match a with | ⟨0, _⟩ => exact (Nat.zero_add _).symm | ⟨1, _⟩ => exact (Nat.zero_add _).symm)).trans ?_
  refine (shapeCast_apply (s := S640x64x128) (t := S640x8192) _ shapeCasts_S640x64x128_S640x8192 _ (ix3 (⟨o.val, by omega⟩ : Fin 640) (grp j) (plc j)) ?_).trans ?_
  · rw [Shape.rowMajor_val_two, Shape.rowMajor_val_three]
    show (o.val * 64 + j.val / 128) * 128 + j.val % 128 = o.val * 8192 + j.val
    omega
  refine (broadcastTo_apply (s := S640x64x1) (t := S640x64x128) _ broadcasts_S640x64x1_S640x64x128 _ (ix3 (⟨o.val, by omega⟩ : Fin 640) (grp j) (0 : Fin 1)) (fun a => by match a with | ⟨0, _⟩ => rfl | ⟨1, _⟩ => rfl | ⟨2, _⟩ => rfl)).trans ?_
  refine (shapeCast_apply (s := S640x64) (t := S640x64x1) _ shapeCasts_S640x64_S640x64x1 _ (ix2 (⟨o.val, by omega⟩ : Fin 640) (grp j)) ?_).trans ?_
  · rw [Shape.rowMajor_val_two, Shape.rowMajor_val_three]
    show o.val * 64 + j.val / 128 = (o.val * 64 + j.val / 128) * 1 + 0
    omega
  refine (shapeCast_apply (s := S5x128x64) (t := S640x64) _ shapeCasts_S5x128x64_S640x64 _ (ix3 (⟨o.val / 128, by omega⟩ : Fin 5) (⟨o.val % 128, by omega⟩ : Fin 128) (grp j)) ?_).trans ?_
  · rw [Shape.rowMajor_val_two, Shape.rowMajor_val_three]
    show (o.val / 128 * 128 + o.val % 128) * 64 + j.val / 128 = o.val * 64 + j.val / 128
    omega
  refine (broadcastTo_apply (s := S5x1x64) (t := S5x128x64) _ broadcasts_S5x1x64_S5x128x64 _ (ix3 (⟨o.val / 128, by omega⟩ : Fin 5) (0 : Fin 1) (grp j)) (fun a => by match a with | ⟨0, _⟩ => rfl | ⟨1, _⟩ => rfl | ⟨2, _⟩ => rfl)).trans ?_
  refine shapeCast_apply (s := S5x64) (t := S5x1x64) _ shapeCasts_S5x64_S5x1x64 _ (ix2 (⟨o.val / 128, by omega⟩ : Fin 5) (grp j)) ?_
  rw [Shape.rowMajor_val_two, Shape.rowMajor_val_three]
  show o.val / 128 * 64 + j.val / 128 = (o.val / 128 * 1 + 0) * 64 + j.val / 128
  omega

/-- The projection. -/
theorem product_apply (x : Vec Ideal S8192x8192 .bf16) (s : Vec Ideal S5x64 .f32) (w : Vec Ideal S576x8192 .fp8e4m3) (n : Fin 8192) (o : Fin 576) :
    k0_pay1 (F := Ideal) (k0_pay8 x) (k0_pay9 s) w (ix2 n o)
      = proj rScale rInv (rrow x n) (fun o j => w (ix2 o j)) (fun a b => s (ix2 a b)) o := by
  refine (Ideal.matmul_transposedRhs_apply (M := 8192) (K := 8192) (N := 576) none (k0_pay8 (F := Ideal) x) _ _ n o).trans ?_
  show Ideal.ofBits .f32 0x00000000#32 + _ = _
  rw [Ideal.ofBits_zero_f32, zero_add]
  refine Finset.sum_congr rfl fun j _ => ?_
  refine congrArg₂ (· * ·) (deq_apply x n j) ?_
  show w (ix2 o j) * k0_pay9 (F := Ideal) s (ix2 o j) = _
  rw [wscale_apply]; rfl

/-- The last 64 projected columns. -/
theorem rope_apply (x : Vec Ideal S8192x8192 .bf16) (s : Vec Ideal S5x64 .f32) (w : Vec Ideal S576x8192 .fp8e4m3) (n : Fin 8192) (o : Fin 64) :
    k0_pay3 (F := Ideal) (k0_pay8 x) (k0_pay9 s) w (ix2 n o)
      = rope (proj rScale rInv (rrow x n) (fun o j => w (ix2 o j)) (fun a b => s (ix2 a b))) o := by
  show extractStridedSlice S8192x64 ![0, 512] (k0_pay1 (F := Ideal) (k0_pay8 x) (k0_pay9 s) w) slices_S8192x576_o0_512_S8192x64 (ix2 n o) = _
  refine (extractStridedSlice_apply (s := S8192x576) (t := S8192x64) ![0, 512] _ slices_S8192x576_o0_512_S8192x64 (ix2 n o) (ix2 n (⟨512 + o.val, by omega⟩ : Fin 576)) (fun a => by match a with | ⟨0, _⟩ => exact (Nat.zero_add _).symm | ⟨1, _⟩ => rfl)).trans ?_
  exact product_apply x s w n _

theorem lift_row (h : S8192x512.Reduces [1] S8192) (n : Fin 8192) (k : Fin 512) : h.lift (ix1 n) k = ix2 n k := by
  funext a; match a with | ⟨0, _⟩ => rfl | ⟨1, _⟩ => rfl

/-- The normalised latent. -/
theorem latent_apply (x : Vec Ideal S8192x8192 .bf16) (s : Vec Ideal S5x64 .f32) (w : Vec Ideal S576x8192 .fp8e4m3) (g : Vec Ideal S1x512 .bf16) (n : Fin 8192) (o : Fin 512) :
    k0_pay2 (F := Ideal) (k0_pay8 x) (k0_pay9 s) w g (ix2 n o)
      = latent (proj rScale rInv (rrow x n) (fun o j => w (ix2 o j)) (fun a b => s (ix2 a b))) (fun o => g (ix2 0 o)) o := by
  have head : ∀ q : Fin 512, extractStridedSlice S8192x512 ![0, 0] (k0_pay1 (F := Ideal) (k0_pay8 x) (k0_pay9 s) w) slices_S8192x576_o0_0_S8192x512 (ix2 n q)
      = proj rScale rInv (rrow x n) (fun o j => w (ix2 o j)) (fun a b => s (ix2 a b)) ⟨q.val, by omega⟩ := fun q =>
    (extractStridedSlice_apply (s := S8192x576) (t := S8192x512) ![0, 0] _ slices_S8192x576_o0_0_S8192x512 (ix2 n q) (ix2 n (⟨q.val, by omega⟩ : Fin 576)) (fun a => by match a with | ⟨0, _⟩ => exact (Nat.zero_add _).symm | ⟨1, _⟩ => exact (Nat.zero_add _).symm)).trans
      (product_apply x s w n _)
  unfold k0_pay2
  generalize extractStridedSlice S8192x512 ![0, 0] (k0_pay1 (F := Ideal) (k0_pay8 x) (k0_pay9 s) w) slices_S8192x576_o0_0_S8192x512 = y at head
  simp only [shapeCast_self]
  show y (ix2 n o) * broadcastTo S8192x512 _ broadcasts_S8192x1_S8192x512 (ix2 n o) * broadcastTo S8192x512 (extf (F := Ideal) .f32 (g : FVec Ideal S1x512 .bf16) bitsLt_bf16_f32) _ (ix2 n o) = _
  refine congrArg₂ (· * ·) (congrArg₂ (· * ·) (head o) ?_) ?_
  · refine (broadcastTo_apply (s := S8192x1) (t := S8192x512) _ broadcasts_S8192x1_S8192x512 (ix2 n o) (ix2 n (0 : Fin 1)) (fun a => by match a with | ⟨0, _⟩ => rfl | ⟨1, _⟩ => rfl)).trans ?_
    refine congrArg (fun z => Ideal.rsqrt (Ideal.div z (Ideal.ofBits .f32 0x44000000#32) + Ideal.ofBits .f32 0x358637BD#32)) ?_
    refine (shapeCast_a_a1_apply _ _ _ _).trans ?_
    refine (Ideal.multiReduction_add_single _ _ reduces_S8192x512_S8192 _ _ _).trans ?_
    refine Finset.sum_congr rfl fun q _ => ?_
    refine (congrArg (mulf y y) (lift_row reduces_S8192x512_S8192 n q)).trans ?_
    exact congrArg₂ (· * ·) (head q) (head q)
  · exact broadcastTo_apply (s := S1x512) (t := S8192x512) (extf (F := Ideal) .f32 (g : FVec Ideal S1x512 .bf16) bitsLt_bf16_f32) _ (ix2 n o) (ix2 (0 : Fin 1) o) (fun a => by match a with | ⟨0, _⟩ => rfl | ⟨1, _⟩ => rfl)

end Cert.RefProof

end
-- ==== Proof.RefArrays.lean ====
/-
  What the reference's four result arrays end holding, read at an index as the functions of Spec over the arguments.
-/
module

public import proofs.«01_k».proof.Proof.RefBody
public import Idealize.ShloMosaic.Lib.Claim

@[expose] public section

set_option maxRecDepth 16384

noncomputable section

open scoped BigOperators

namespace Cert.RefProof

open Idealize.ShloMosaic hiding ix1 ix2 ix3 ix4 eq_ix1 eq_ix2 eq_ix3 eq_ix4
open Idealize.ShloMosaic.ValueIdx
open Idealize.ShloMosaic.TcCoe Idealize.ShloMosaic.Tactic
open Idealize.SL Idealize.SL.Sem
open Cert.Proof
open Cert.ReferenceIdeal Cert.ReferenceIdeal.Gen

variable (m : (ℓ : Loc nD τ sig) → Buf (Elt Ideal) ℓ) (ρ : Dev nD → PrngReg)

/-- Row `n` of the activations, the leading two axes flattened. -/
def xrow (x : Vec Ideal S4x2048x8192 .bf16) (n : Fin 8192) (j : Fin 8192) : EReal :=
  shapeCast S8192x8192 x shapeCasts_S4x2048x8192_S8192x8192 (ix2 n j)

/-- The weight's codes by row and column. -/
def wmat (w : Vec Ideal S576x8192 .fp8e4m3) (o : Fin 576) (j : Fin 8192) : EReal := w (ix2 o j)

/-- The weight's scales by tile. -/
def smat (s : Vec Ideal S5x64 .f32) (a : Fin 5) (b : Fin 64) : EReal := s (ix2 a b)

/-- The normalisation's weights. -/
def gvec (g : Vec Ideal S512 .bf16) (o : Fin 512) : EReal := g (ix1 o)

theorem V_v0 (c : Dev nD) : V m c main_v0 = shapeCast S8192x8192 (m ((c : Thread nD τ).loc main_arg0)) shapeCasts_S4x2048x8192_S8192x8192 := by
  entry_read
  rfl

theorem V_v1 (c : Dev nD) : V m c main_v1 = shapeCast S1x512 (m ((c : Thread nD τ).loc main_arg3)) shapeCasts_S512_S1x512 := by
  entry_read
  rfl

theorem idx0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- The four inputs as the body reads them. -/
theorem iblk0_eq (c : Dev nD) (t : Fin cfg0.N) : (iblk m c 0 t : Vec Ideal S8192x8192 .bf16) = V m c main_v0 := by
  have e := idx0 t
  funext y
  show V m c main_v0 (((cfg0.win 0).blk t).view.emb y) = _
  refine congrArg _ ?_
  funext a
  match a with
  | ⟨0, _⟩ => refine Fin.ext ?_; show win0_0.index t (0 : Fin 2) * 8192 + 1 * (y 0).val = (y 0).val; omega
  | ⟨1, _⟩ => refine Fin.ext ?_; show win0_0.index t (1 : Fin 2) * 8192 + 1 * (y 1).val = (y 1).val; omega

theorem iblk1_eq (c : Dev nD) (t : Fin cfg0.N) : (iblk m c 1 t : Vec Ideal S576x8192 .fp8e4m3) = m ((c : Thread nD τ).loc main_arg1) := by
  have e := idx1 t
  funext y
  show V m c main_arg1 (((cfg0.win 1).blk t).view.emb y) = _
  rw [V_main_arg1]
  refine congrArg _ ?_
  funext a
  match a with
  | ⟨0, _⟩ => refine Fin.ext ?_; show win0_1.index t (0 : Fin 2) * 576 + 1 * (y 0).val = (y 0).val; omega
  | ⟨1, _⟩ => refine Fin.ext ?_; show win0_1.index t (1 : Fin 2) * 8192 + 1 * (y 1).val = (y 1).val; omega

theorem iblk2_eq (c : Dev nD) (t : Fin cfg0.N) : (iblk m c 2 t : Vec Ideal S5x64 .f32) = m ((c : Thread nD τ).loc main_arg2) := by
  have e := idx2 t
  funext y
  show V m c main_arg2 (((cfg0.win 2).blk t).view.emb y) = _
  rw [V_main_arg2]
  refine congrArg _ ?_
  funext a
  match a with
  | ⟨0, _⟩ => refine Fin.ext ?_; show win0_2.index t (0 : Fin 2) * 5 + 1 * (y 0).val = (y 0).val; omega
  | ⟨1, _⟩ => refine Fin.ext ?_; show win0_2.index t (1 : Fin 2) * 64 + 1 * (y 1).val = (y 1).val; omega

theorem iblk3_eq (c : Dev nD) (t : Fin cfg0.N) : (iblk m c 3 t : Vec Ideal S1x512 .bf16) = V m c main_v1 := by
  have e := idx3 t
  funext y
  show V m c main_v1 (((cfg0.win 3).blk t).view.emb y) = _
  refine congrArg _ ?_
  funext a
  match a with
  | ⟨0, _⟩ => refine Fin.ext ?_; show win0_3.index t (0 : Fin 2) * 1 + 1 * (y 0).val = (y 0).val; omega
  | ⟨1, _⟩ => refine Fin.ext ?_; show win0_3.index t (1 : Fin 2) * 512 + 1 * (y 1).val = (y 1).val; omega

/-- The arguments as rows. -/
theorem rrow_v0 (c : Dev nD) : rrow (V m c main_v0) = xrow (m ((c : Thread nD τ).loc main_arg0)) := by
  rw [V_v0]; rfl

theorem gvec_v1 (c : Dev nD) : (fun o : Fin 512 => (V m c main_v1 : Vec Ideal S1x512 .bf16) (ix2 0 o)) = gvec (m ((c : Thread nD τ).loc main_arg3)) := by
  rw [V_v1]
  funext o
  exact shapeCast_a_1a_apply _ _ _ _

/-- The reference's first result: the normalised latent of the projected row. -/
def R4 (c : Dev nD) : Vec Ideal S8192x512 .bf16 := fun i =>
  latent (proj rScale rInv (xrow (m ((c : Thread nD τ).loc main_arg0)) (i 0))
    (wmat (m ((c : Thread nD τ).loc main_arg1))) (smat (m ((c : Thread nD τ).loc main_arg2)))) (gvec (m ((c : Thread nD τ).loc main_arg3))) (i 1)

/-- The reference's second result: the projected row's last 64 columns. -/
def R5 (c : Dev nD) : Vec Ideal S8192x64 .bf16 := fun i =>
  rope (proj rScale rInv (xrow (m ((c : Thread nD τ).loc main_arg0)) (i 0))
    (wmat (m ((c : Thread nD τ).loc main_arg1))) (smat (m ((c : Thread nD τ).loc main_arg2)))) (i 1)

/-- The reference's third result: the codes of the row. -/
def R6 (c : Dev nD) : Vec Ideal S8192x8192 .fp8e4m3 := fun i =>
  code rInv (xrow (m ((c : Thread nD τ).loc main_arg0)) (i 0)) (i 1)

/-- The reference's fourth result: the scales of the row. -/
def R7 (c : Dev nD) : Vec Ideal S8192x64 .f32 := fun i =>
  gscale rScale (xrow (m ((c : Thread nD τ).loc main_arg0)) (i 0)) (i 1)

theorem emb4 (t : Fin cfg0.N) (y : S8192x512.Idx) : ((cfg0.win 4).blk t).view.emb y = y := by
  have e := idx4 t
  funext a
  match a with
  | ⟨0, _⟩ => refine Fin.ext ?_; show win0_4.index t (0 : Fin 2) * 8192 + 1 * (y 0).val = (y 0).val; omega
  | ⟨1, _⟩ => refine Fin.ext ?_; show win0_4.index t (1 : Fin 2) * 512 + 1 * (y 1).val = (y 1).val; omega
theorem emb5 (t : Fin cfg0.N) (y : S8192x64.Idx) : ((cfg0.win 5).blk t).view.emb y = y := by
  have e := idx5 t
  funext a
  match a with
  | ⟨0, _⟩ => refine Fin.ext ?_; show win0_5.index t (0 : Fin 2) * 8192 + 1 * (y 0).val = (y 0).val; omega
  | ⟨1, _⟩ => refine Fin.ext ?_; show win0_5.index t (1 : Fin 2) * 64 + 1 * (y 1).val = (y 1).val; omega
theorem emb6 (t : Fin cfg0.N) (y : S8192x8192.Idx) : ((cfg0.win 6).blk t).view.emb y = y := by
  have e := idx6 t
  funext a
  match a with
  | ⟨0, _⟩ => refine Fin.ext ?_; show win0_6.index t (0 : Fin 2) * 8192 + 1 * (y 0).val = (y 0).val; omega
  | ⟨1, _⟩ => refine Fin.ext ?_; show win0_6.index t (1 : Fin 2) * 8192 + 1 * (y 1).val = (y 1).val; omega
theorem emb7 (t : Fin cfg0.N) (y : S8192x64.Idx) : ((cfg0.win 7).blk t).view.emb y = y := by
  have e := idx7 t
  funext a
  match a with
  | ⟨0, _⟩ => refine Fin.ext ?_; show win0_7.index t (0 : Fin 2) * 8192 + 1 * (y 0).val = (y 0).val; omega
  | ⟨1, _⟩ => refine Fin.ext ?_; show win0_7.index t (1 : Fin 2) * 64 + 1 * (y 1).val = (y 1).val; omega

/-- What the body leaves in each result's buffer is its one store. -/
theorem out4_eq (x0 : Vec Ideal S8192x8192 .bf16) (x1 : Vec Ideal S576x8192 .fp8e4m3) (x2 : Vec Ideal S5x64 .f32) (x3 : Vec Ideal S1x512 .bf16) :
    out0_4 (F := Ideal) x0 x1 x2 x3 = k0_pay2 (k0_pay8 x0) (k0_pay9 x2) x1 x3 := by
  unfold_out out0_4
  rw [View.canon_unit_zero (by funext a; fin_cases a <;> rfl)]
  rw [View.ld_unit_zero (by funext a; fin_cases a <;> rfl), View.ld_unit_zero (by funext a; fin_cases a <;> rfl), View.ld_unit_zero (by funext a; fin_cases a <;> rfl), View.ld_unit_zero (by funext a; fin_cases a <;> rfl)]
theorem out5_eq (x0 : Vec Ideal S8192x8192 .bf16) (x1 : Vec Ideal S576x8192 .fp8e4m3) (x2 : Vec Ideal S5x64 .f32) (x3 : Vec Ideal S1x512 .bf16) :
    out0_5 (F := Ideal) x0 x1 x2 x3 = k0_pay3 (k0_pay8 x0) (k0_pay9 x2) x1 := by
  unfold_out out0_5
  rw [View.canon_unit_zero (by funext a; fin_cases a <;> rfl)]
  rw [View.ld_unit_zero (by funext a; fin_cases a <;> rfl), View.ld_unit_zero (by funext a; fin_cases a <;> rfl), View.ld_unit_zero (by funext a; fin_cases a <;> rfl)]
theorem out6_eq (x0 : Vec Ideal S8192x8192 .bf16) (x1 : Vec Ideal S576x8192 .fp8e4m3) (x2 : Vec Ideal S5x64 .f32) (x3 : Vec Ideal S1x512 .bf16) :
    out0_6 (F := Ideal) x0 x1 x2 x3 = k0_pay7 x0 := by
  unfold_out out0_6
  rw [View.canon_unit_zero (by funext a; fin_cases a <;> rfl)]
  rw [View.ld_unit_zero (by funext a; fin_cases a <;> rfl)]
theorem out7_eq (x0 : Vec Ideal S8192x8192 .bf16) (x1 : Vec Ideal S576x8192 .fp8e4m3) (x2 : Vec Ideal S5x64 .f32) (x3 : Vec Ideal S1x512 .bf16) :
    out0_7 (F := Ideal) x0 x1 x2 x3 = k0_pay6 x0 := by
  unfold_out out0_7
  rw [View.canon_unit_zero (by funext a; fin_cases a <;> rfl)]
  rw [View.ld_unit_zero (by funext a; fin_cases a <;> rfl)]

theorem final4 (c : Dev nD) : (dats m 0 c).arrAt 4 cfg0.N = R4 m c := by
  refine (dats m 0 c).arrAt_eq_of_covers 4 _ (by decide +kernel) fun t hf y => ?_
  show (dats m 0 c).after 4 t y = R4 m c (((cfg0.win 4).blk t).view.emb y)
  rw [after0_4, out4_eq, iblk0_eq, iblk1_eq, iblk2_eq, iblk3_eq, emb4]
  obtain ⟨n, o, rfl⟩ : ∃ (n : Fin 8192) (o : Fin 512), y = ix2 n o := ⟨y 0, y 1, eq_ix2 y⟩
  refine (latent_apply _ _ _ _ n o).trans ?_
  rw [rrow_v0, gvec_v1]
  rfl

theorem final5 (c : Dev nD) : (dats m 0 c).arrAt 5 cfg0.N = R5 m c := by
  refine (dats m 0 c).arrAt_eq_of_covers 5 _ (by decide +kernel) fun t hf y => ?_
  show (dats m 0 c).after 5 t y = R5 m c (((cfg0.win 5).blk t).view.emb y)
  rw [after0_5, out5_eq, iblk0_eq, iblk1_eq, iblk2_eq, emb5]
  obtain ⟨n, o, rfl⟩ : ∃ (n : Fin 8192) (o : Fin 64), y = ix2 n o := ⟨y 0, y 1, eq_ix2 y⟩
  refine (rope_apply _ _ _ n o).trans ?_
  rw [rrow_v0]
  rfl

theorem final6 (c : Dev nD) : (dats m 0 c).arrAt 6 cfg0.N = R6 m c := by
  refine (dats m 0 c).arrAt_eq_of_covers 6 _ (by decide +kernel) fun t hf y => ?_
  show (dats m 0 c).after 6 t y = R6 m c (((cfg0.win 6).blk t).view.emb y)
  rw [after0_6, out6_eq, iblk0_eq, emb6]
  obtain ⟨n, j, rfl⟩ : ∃ (n : Fin 8192) (j : Fin 8192), y = ix2 n j := ⟨y 0, y 1, eq_ix2 y⟩
  refine (codes_apply _ n j).trans ?_
  rw [rrow_v0]
  rfl

theorem final7 (c : Dev nD) : (dats m 0 c).arrAt 7 cfg0.N = R7 m c := by
  refine (dats m 0 c).arrAt_eq_of_covers 7 _ (by decide +kernel) fun t hf y => ?_
  show (dats m 0 c).after 7 t y = R7 m c (((cfg0.win 7).blk t).view.emb y)
  rw [after0_7, out7_eq, iblk0_eq, emb7]
  obtain ⟨n, g, rfl⟩ : ∃ (n : Fin 8192) (g : Fin 64), y = ix2 n g := ⟨y 0, y 1, eq_ix2 y⟩
  refine (scales_apply _ n g).trans ?_
  rw [rrow_v0]
  rfl

/-- The reference runs, and its four results end at `R4` … `R7`, its arguments unchanged. -/
theorem run : θ_run defs (onTc (τ := τ) (main (F := Ideal))) ⟨m, fun _ => 0, ρ⟩ fun r => ∀ c : Dev nD,
      r.2.mem ((c : Thread nD τ).loc main_v2_0) = R4 m c
      ∧ r.2.mem ((c : Thread nD τ).loc main_v2_1) = R5 m c
      ∧ r.2.mem ((c : Thread nD τ).loc main_v2_2) = R6 m c
      ∧ r.2.mem ((c : Thread nD τ).loc main_v2_3) = R7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final4 m c), ((h c).1 5).trans (final5 m c), ((h c).1 6).trans (final6 m c), ((h c).1 7).trans (final7 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

end Cert.RefProof

end
-- ==== Proof.Equal.lean ====
/-
  The value claim: at every finite activation the kernel's four results are the reference's.
-/
module

public import proofs.«01_k».proof.Defs
public import proofs.«01_k».proof.Proof.KernelArrays
public import proofs.«01_k».proof.Proof.RefArrays
public import proofs.«01_k».proof.Proof.Gen.Pre_finite

@[expose] public section

set_option maxRecDepth 16384

noncomputable section

namespace Cert.Proof

open Idealize.ShloMosaic hiding ix1 ix2 ix3 ix4 eq_ix1 eq_ix2 eq_ix3 eq_ix4
open Idealize.ShloMosaic.ValueIdx
open Idealize.ShloMosaic.TcCoe
open Idealize.SL Idealize.SL.Sem

/-- A comparison that answers yes says the first number is at most the second. -/
theorem le_of_cmp (a b : EReal) (h : Ideal.cmp .ole a b = 1#1) : a ≤ b := by
  by_contra hn
  have h' : BitVec.ofBool (decide (a ≤ b)) = 1#1 := h
  rw [decide_eq_false hn] at h'
  exact absurd h' (by decide)

/-- A property of every element of the activations holds of every element of their rows. -/
theorem row_of_all (X : Vec Ideal Cert.KernelIdeal.S4x2048x8192 .bf16) (P : EReal → Prop) (h : ∀ k, P (X k)) (n j : Fin 8192) : P (xrow X n j) := h _

/-- The precondition at an element of a row: its magnitude is at most the largest finite bf16. -/
theorem finite_row (m : (ℓ : Loc Cert.KernelIdeal.nD Cert.KernelIdeal.τ Cert.KernelIdeal.sig) → Buf (Elt Ideal) ℓ)
    (hpre : Cert.Pre_KernelIdeal_finite (hPre_finite := Cert.Pre_finite.Gen.facts) m) (c : Dev Cert.KernelIdeal.nD) (n j : Fin 8192) :
    max (xrow (m ((c.tc : Thread Cert.KernelIdeal.nD Cert.KernelIdeal.τ).loc Cert.KernelIdeal.main_arg0)) n j)
      (-(xrow (m ((c.tc : Thread Cert.KernelIdeal.nD Cert.KernelIdeal.τ).loc Cert.KernelIdeal.main_arg0)) n j)) ≤ Ideal.ofBits .bf16 0x7F7F#16 :=
  row_of_all _ (fun v => max v (-v) ≤ Ideal.ofBits .bf16 0x7F7F#16) (fun k => le_of_cmp _ _ (congrFun (hpre c) k)) n j

/-- The kernel and the reference, from memories agreeing on the arguments and finite activations, end with equal results. -/
theorem algebraic : Cert.algebraic_KernelIdeal_ReferenceIdeal_pre_finite
    (hKernelIdeal := Cert.KernelIdeal.Gen.facts) (hReferenceIdeal := Cert.ReferenceIdeal.Gen.facts) (hPre_finite := Cert.Pre_finite.Gen.facts) := by
  intro m ρ m' ρ' hpre hm
  have e4 : ∀ c : Dev Cert.KernelIdeal.nD, Cert.RefProof.R4 m' c = Cert.KernelIdeal.Value.G4 m c := fun c => by
    funext i
    refine Eq.trans ?_ (kernel_latent m c i).symm
    unfold Cert.RefProof.R4
    rw [(hm c).1, (hm c).2.1, (hm c).2.2.1, (hm c).2.2.2]
    rw [proj_eq _ (finite_row m hpre c (i 0))]
    rfl
  have e5 : ∀ c : Dev Cert.KernelIdeal.nD, Cert.RefProof.R5 m' c = Cert.KernelIdeal.Value.G5 m c := fun c => by
    funext i
    refine Eq.trans ?_ (kernel_rope m c i).symm
    unfold Cert.RefProof.R5
    rw [(hm c).1, (hm c).2.1, (hm c).2.2.1]
    rw [proj_eq _ (finite_row m hpre c (i 0))]
    rfl
  have e6 : ∀ c : Dev Cert.KernelIdeal.nD, Cert.RefProof.R6 m' c = Cert.KernelIdeal.Value.G6 m c := fun c => by
    funext i
    refine Eq.trans ?_ (kernel_codes m c i).symm
    unfold Cert.RefProof.R6
    rw [(hm c).1]
    rw [code_eq _ (finite_row m hpre c (i 0))]
    rfl
  have e7 : ∀ c : Dev Cert.KernelIdeal.nD, Cert.RefProof.R7 m' c = Cert.KernelIdeal.Value.G7 m c := fun c => by
    funext i
    refine Eq.trans ?_ (kernel_scales m c i).symm
    unfold Cert.RefProof.R7
    rw [(hm c).1]
    rw [gscale_eq _ (finite_row m hpre c (i 0))]
    rfl
  refine ⟨Cert.KernelIdeal.Value.G4 m, Cert.KernelIdeal.Value.G5 m, Cert.KernelIdeal.Value.G6 m, Cert.KernelIdeal.Value.G7 m,
    Cert.KernelIdeal.Value.run m ρ, ?_⟩
  refine (θ_run _ _ _).mono (fun r h c => ?_) (Cert.RefProof.run m' ρ')
  obtain ⟨h4, h5, h6, h7, hargs⟩ := h c
  exact ⟨h4.trans (e4 c), h5.trans (e5 c), h6.trans (e6 c), h7.trans (e7 c), hargs⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.Pre_finite
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The three frames, the idealisation's preservation and the equality of the four results. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  trivial,
  algebraic⟩

end Cert.Proof

end
